-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_boxes [hPre_finite_boxes : Cert.Pre_finite_boxes.Facts] (m : (ℓ : Loc Cert.KernelIdeal.nD Cert.KernelIdeal.τ Cert.KernelIdeal.sig) → Buf (Elt Ideal) ℓ) : Prop :=
  ∀ c : Dev Cert.KernelIdeal.nD,
    (Cert.Pre_finite_boxes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite_boxes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.1 = (fun _ => 1#1)
    ∧ (Cert.Pre_finite_boxes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_boxes [hPre_finite_boxes : Cert.Pre_finite_boxes.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_boxes.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite_boxes.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.1 = (fun _ => 1#1)
    ∧ (Cert.Pre_finite_boxes.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_boxes [hKernelIdeal : Cert.KernelIdeal.Facts] [hPre_finite_boxes : Cert.Pre_finite_boxes.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_boxes m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_boxes [hReferenceIdeal : Cert.ReferenceIdeal.Facts] [hPre_finite_boxes : Cert.Pre_finite_boxes.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_boxes m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "area0" .f32 0x4012816F#32 ((161084615609445 / 70368744177664 : ℝ) : EReal)
  ∧ IdealRules.named_const.Statement Cert.KernelIdeal.κ "area1" .f32 0x414CD177#32 ((28150003003605 / 2199023255552 : ℝ) : EReal)
  ∧ IdealRules.named_const.Statement Cert.KernelIdeal.κ "area2" .f32 0x4223C9D1#32 ((5627724709439 / 137438953472 : ℝ) : EReal)
  ∧ IdealRules.named_const.Statement Cert.KernelIdeal.κ "area3" .f32 0x42376186#32 ((100814747037803 / 2199023255552 : ℝ) : EReal)
  ∧ IdealRules.named_const.Statement Cert.KernelIdeal.κ "area4" .f32 0x42E0E337#32 ((123633239321895 / 1099511627776 : ℝ) : EReal)

def algebraic_KernelIdeal_ReferenceIdeal_pre_finite_boxes [hKernelIdeal : Cert.KernelIdeal.Facts] [hReferenceIdeal : Cert.ReferenceIdeal.Facts] [hPre_finite_boxes : Cert.Pre_finite_boxes.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_boxes m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v525) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_boxes : Cert.Pre_finite_boxes.Facts),
    quiescent_Kernel (hKernel := hKernel)
    ∧ quiescent_KernelIdeal (hKernelIdeal := hKernelIdeal)
    ∧ quiescent_KernelIdeal_pre_finite_boxes (hKernelIdeal := hKernelIdeal) (hPre_finite_boxes := hPre_finite_boxes)
    ∧ quiescent_ReferenceIdeal (hReferenceIdeal := hReferenceIdeal)
    ∧ quiescent_ReferenceIdeal_pre_finite_boxes (hReferenceIdeal := hReferenceIdeal) (hPre_finite_boxes := hPre_finite_boxes)
    ∧ preserves_Kernel_KernelIdeal
    ∧ algebraic_KernelIdeal_ReferenceIdeal_pre_finite_boxes (hKernelIdeal := hKernelIdeal) (hReferenceIdeal := hReferenceIdeal) (hPre_finite_boxes := hPre_finite_boxes)
-- ==== Pre_finite_boxes.lean ====
abbrev S320x30x26x26 : Shape := ⟨4, ![320, 30, 26, 26]⟩
abbrev S16x20x50 : Shape := ⟨3, ![16, 20, 50]⟩
abbrev S16x20x10x5 : Shape := ⟨4, ![16, 20, 10, 5]⟩
abbrev S_ : Shape := ⟨0, ![]⟩
abbrev S16x20x10x2 : Shape := ⟨4, ![16, 20, 10, 2]⟩

class Facts : Prop where
  shapeCasts_S16x20x50_S16x20x10x5 : S16x20x50.ShapeCasts S16x20x10x5
  bcast_S_S320x30x26x26 : S_.BroadcastsInDim S320x30x26x26 (![] : Fin 0 → Fin S320x30x26x26.rank)
  bcast_S_S16x20x50 : S_.BroadcastsInDim S16x20x50 (![] : Fin 0 → Fin S16x20x50.rank)
  slices_S16x20x10x5_S16x20x10x2_0_0_0_3 : S16x20x10x5.Slices ![0, 0, 0, 3] S16x20x10x2
  bcast_S_S16x20x10x2 : S_.BroadcastsInDim S16x20x10x2 (![] : Fin 0 → Fin S16x20x10x2.rank)

variable [Facts]

def fn {F : FTy → Type} [FloatOps F] (main_arg0 : FVec F S320x30x26x26 .f32) (main_arg1 : FVec F S16x20x50 .f32) : IVec S320x30x26x26 1 × IVec S16x20x50 1 × IVec S16x20x10x2 1 :=
  let main_v0 : FVec F S16x20x10x5 .f32 := shapeCast S16x20x10x5 main_arg1 shapeCasts_S16x20x50_S16x20x10x5
  let main_v1 : FVec F S320x30x26x26 .f32 := Host.absf main_arg0
  let main_cst : FVec F S_ .f32 := constant S_ .f32 0x7F800000#32
  let main_v2 : FVec F S320x30x26x26 .f32 := broadcastInDim S320x30x26x26 ![] bcast_S_S320x30x26x26 main_cst
  let main_v3 : IVec S320x30x26x26 1 := cmpf .olt main_v1 main_v2
  let main_v4 : FVec F S16x20x50 .f32 := Host.absf main_arg1
  let main_cst_0 : FVec F S_ .f32 := constant S_ .f32 0x7F800000#32
  let main_v5 : FVec F S16x20x50 .f32 := broadcastInDim S16x20x50 ![] bcast_S_S16x20x50 main_cst_0
  let main_v6 : IVec S16x20x50 1 := cmpf .olt main_v4 main_v5
  let main_v7 : FVec F S16x20x10x2 .f32 := (extractStridedSlice S16x20x10x2 ![0, 0, 0, 3] · slices_S16x20x10x5_S16x20x10x2_0_0_0_3) main_v0
  let main_cst_1 : FVec F S_ .f32 := constant S_ .f32 0x00000000#32
  let main_v8 : FVec F S16x20x10x2 .f32 := broadcastInDim S16x20x10x2 ![] bcast_S_S16x20x10x2 main_cst_1
  let main_v9 : IVec S16x20x10x2 1 := cmpf .oge main_v7 main_v8
  (main_v3, main_v6, main_v9)
-- ==== Kernel.lean ====
abbrev S320x30x26x26 : Shape := ⟨4, ![320, 30, 26, 26]⟩
abbrev S16x20x50 : Shape := ⟨3, ![16, 20, 50]⟩
abbrev S320x5x6x676 : Shape := ⟨4, ![320, 5, 6, 676]⟩
abbrev S8x2x20x10x5 : Shape := ⟨5, ![8, 2, 20, 10, 5]⟩
abbrev S8x5x2x20x10 : Shape := ⟨5, ![8, 5, 2, 20, 10]⟩
abbrev S8x5x40x10 : Shape := ⟨4, ![8, 5, 40, 10]⟩
abbrev S8x128 : Shape := ⟨2, ![8, 128]⟩
abbrev S40x5x6x676 : Shape := ⟨4, ![40, 5, 6, 676]⟩
abbrev S1x5x40x10 : Shape := ⟨4, ![1, 5, 40, 10]⟩
abbrev S1x676 : Shape := ⟨2, ![1, 676]⟩
abbrev S40x1 : Shape := ⟨2, ![40, 1]⟩
abbrev S1x1x40x10 : Shape := ⟨4, ![1, 1, 40, 10]⟩
abbrev S40x10 : Shape := ⟨2, ![40, 10]⟩
abbrev S1x10 : Shape := ⟨2, ![1, 10]⟩
abbrev S40x1x1x676 : Shape := ⟨4, ![40, 1, 1, 676]⟩
abbrev S40x676 : Shape := ⟨2, ![40, 676]⟩
abbrev S40 : Shape := ⟨1, ![40]⟩
abbrev S1x40x676 : Shape := ⟨3, ![1, 40, 676]⟩
abbrev S1 : Shape := ⟨1, ![1]⟩
abbrev S1x1x1 : Shape := ⟨3, ![1, 1, 1]⟩
abbrev S20x676 : Shape := ⟨2, ![20, 676]⟩
abbrev S20x1 : Shape := ⟨2, ![20, 1]⟩
abbrev S676 : Shape := ⟨1, ![676]⟩
abbrev S1x1 : Shape := ⟨2, ![1, 1]⟩
abbrev S_ : Shape := ⟨0, ![]⟩

abbrev nBuf : Space → Nat
  | .hbm => 9
  | .vmem => 5
  | .smem => 0
  | _ => 0

abbrev bufTy : (tb : Table) → Fin (tcTables nBuf tb) → BufTy
  | .hbm, ⟨0, _⟩ => ⟨S320x30x26x26, .f32⟩
  | .hbm, ⟨1, _⟩ => ⟨S16x20x50, .f32⟩
  | .hbm, ⟨2, _⟩ => ⟨S320x5x6x676, .f32⟩
  | .hbm, ⟨3, _⟩ => ⟨S8x2x20x10x5, .f32⟩
  | .hbm, ⟨4, _⟩ => ⟨S8x5x2x20x10, .f32⟩
  | .hbm, ⟨5, _⟩ => ⟨S8x5x40x10, .f32⟩
  | .hbm, ⟨6, _⟩ => ⟨S8x128, .f32⟩
  | .hbm, ⟨7, _⟩ => ⟨S1x1, .f32⟩
  | .hbm, ⟨8, _⟩ => ⟨S_, .f32⟩
  | .local _ .vmem, ⟨0, _⟩ => ⟨S40x5x6x676, .f32⟩
  | .local _ .vmem, ⟨1, _⟩ => ⟨S40x5x6x676, .f32⟩
  | .local _ .vmem, ⟨2, _⟩ => ⟨S1x5x40x10, .f32⟩
  | .local _ .vmem, ⟨3, _⟩ => ⟨S1x5x40x10, .f32⟩
  | .local _ .vmem, ⟨4, _⟩ => ⟨S8x128, .f32⟩
  | _, _ => ⟨S320x30x26x26, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32_673 : BitVec 32 := 0#32
  let v4924 : BitVec 1 := Scalar.cmpi .eq arg0 c0_i32_673
  let v4925 : BitVec 32 := Scalar.extui v4924
  let c0_i32_674 : BitVec 32 := 0#32
  let v4926 : BitVec 1 := Scalar.cmpi .ne v4925 c0_i32_674
  v4926

def k0_cond2 (i : grid0.Coords) : BitVec 1 :=
  let arg0 : BitVec 32 := BitVec.ofNat 32 (i 0).val
  let c0_i32_675 : BitVec 32 := 0#32
  let v4927 : BitVec 1 := Scalar.cmpi .ne arg0 c0_i32_675
  let v4928 : BitVec 32 := Scalar.extui v4927
  let c0_i32_676 : BitVec 32 := 0#32
  let v4929 : BitVec 1 := Scalar.cmpi .ne v4928 c0_i32_676
  v4929

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S40x5x6x676 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x5x40x10 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== KernelIdeal.lean ====
variable {F : FTy → Type} [FloatOps F] [Named F]
def κ : String → Option EReal := fun
  | "area0" => some ((161084615609445 / 70368744177664 : ℝ) : EReal)
  | "area1" => some ((28150003003605 / 2199023255552 : ℝ) : EReal)
  | "area2" => some ((5627724709439 / 137438953472 : ℝ) : EReal)
  | "area3" => some ((100814747037803 / 2199023255552 : ℝ) : EReal)
  | "area4" => some ((123633239321895 / 1099511627776 : ℝ) : EReal)
  | _ => none
-- ==== ReferenceIdeal.lean ====
abbrev S320x30x26x26 : Shape := ⟨4, ![320, 30, 26, 26]⟩
abbrev S16x20x50 : Shape := ⟨3, ![16, 20, 50]⟩
abbrev S5x2 : Shape := ⟨2, ![5, 2]⟩
abbrev S320x5x6x26x26 : Shape := ⟨5, ![320, 5, 6, 26, 26]⟩
abbrev S320x5x1x26x26 : Shape := ⟨5, ![320, 5, 1, 26, 26]⟩
abbrev S320x5x26x26 : Shape := ⟨4, ![320, 5, 26, 26]⟩
abbrev S_ : Shape := ⟨0, ![]⟩
abbrev S16x20x3380 : Shape := ⟨3, ![16, 20, 3380]⟩
abbrev S16x3380x20 : Shape := ⟨3, ![16, 3380, 20]⟩
abbrev S26 : Shape := ⟨1, ![26]⟩
abbrev S1x1x1x26 : Shape := ⟨4, ![1, 1, 1, 26]⟩
abbrev S1x1x26x1 : Shape := ⟨4, ![1, 1, 26, 1]⟩
abbrev S5x1 : Shape := ⟨2, ![5, 1]⟩
abbrev S5 : Shape := ⟨1, ![5]⟩
abbrev S1x5x1x1 : Shape := ⟨4, ![1, 5, 1, 1]⟩
abbrev S320x5x26x26x1 : Shape := ⟨5, ![320, 5, 26, 26, 1]⟩
abbrev S320x5x26x26x4 : Shape := ⟨5, ![320, 5, 26, 26, 4]⟩
abbrev S320x3380x4 : Shape := ⟨3, ![320, 3380, 4]⟩
abbrev S320x10x5 : Shape := ⟨3, ![320, 10, 5]⟩
abbrev S320x10x1 : Shape := ⟨3, ![320, 10, 1]⟩
abbrev S320x10 : Shape := ⟨2, ![320, 10]⟩
abbrev S320x10x4 : Shape := ⟨3, ![320, 10, 4]⟩
abbrev S320x1x3380x4 : Shape := ⟨4, ![320, 1, 3380, 4]⟩
abbrev S320x10x1x4 : Shape := ⟨4, ![320, 10, 1, 4]⟩
abbrev S320x1x3380x1 : Shape := ⟨4, ![320, 1, 3380, 1]⟩
abbrev S320x1x3380 : Shape := ⟨3, ![320, 1, 3380]⟩
abbrev S320x10x1x1 : Shape := ⟨4, ![320, 10, 1, 1]⟩
abbrev S320x10x3380 : Shape := ⟨3, ![320, 10, 3380]⟩
abbrev S320x3380 : Shape := ⟨2, ![320, 3380]⟩
abbrev S1081600 : Shape := ⟨1, ![1081600]⟩
abbrev S5x4 : Shape := ⟨2, ![5, 4]⟩
abbrev S1x1x5x4 : Shape := ⟨4, ![1, 1, 5, 4]⟩
abbrev S1x1x5x1 : Shape := ⟨4, ![1, 1, 5, 1]⟩
abbrev S1x1x5 : Shape := ⟨3, ![1, 1, 5]⟩
abbrev S320 : Shape := ⟨1, ![320]⟩
abbrev S320x1 : Shape := ⟨2, ![320, 1]⟩
abbrev S3200 : Shape := ⟨1, ![3200]⟩
abbrev S320x10x2 : Shape := ⟨3, ![320, 10, 2]⟩
abbrev S1081600x4 : Shape := ⟨2, ![1081600, 4]⟩
abbrev S3200x1 : Shape := ⟨2, ![3200, 1]⟩
abbrev S3200x4 : Shape := ⟨2, ![3200, 4]⟩
abbrev S54080 : Shape := ⟨1, ![54080]⟩
abbrev S54080x20 : Shape := ⟨2, ![54080, 20]⟩
abbrev S54080x1 : Shape := ⟨2, ![54080, 1]⟩
abbrev S54080x1x1 : Shape := ⟨3, ![54080, 1, 1]⟩
abbrev S1 : Shape := ⟨1, ![1]⟩
abbrev S1x1x1 : Shape := ⟨3, ![1, 1, 1]⟩

abbrev nBuf : Space → Nat
  | .hbm => 727
  | .vmem => 0
  | .smem => 0
  | _ => 0

abbrev hbmTy0_0 (i : Nat) : BufTy := match i % 128 with
  | 0 => ⟨S320x30x26x26, .f32⟩
  | 1 => ⟨S16x20x50, .f32⟩
  | 2 => ⟨S5x2, .f32⟩
  | 3 => ⟨S320x5x6x26x26, .f32⟩
  | 4 => ⟨S320x5x1x26x26, .f32⟩
  | 5 => ⟨S320x5x26x26, .f32⟩
  | 6 => ⟨S320x5x26x26, .f32⟩
  | 7 => ⟨S320x5x26x26, .f32⟩
  | 8 => ⟨S_, .f32⟩
  | 9 => ⟨S320x5x26x26, .f32⟩
  | 10 => ⟨S320x5x26x26, .f32⟩
  | 11 => ⟨S_, .f32⟩
  | 12 => ⟨S320x5x26x26, .f32⟩
  | 13 => ⟨S320x5x26x26, .f32⟩
  | 14 => ⟨S320x5x1x26x26, .f32⟩
  | 15 => ⟨S320x5x26x26, .f32⟩
  | 16 => ⟨S320x5x26x26, .f32⟩
  | 17 => ⟨S320x5x26x26, .f32⟩
  | 18 => ⟨S_, .f32⟩
  | 19 => ⟨S320x5x26x26, .f32⟩
  | 20 => ⟨S320x5x26x26, .f32⟩
  | 21 => ⟨S_, .f32⟩
  | 22 => ⟨S320x5x26x26, .f32⟩
  | 23 => ⟨S320x5x26x26, .f32⟩
  | 24 => ⟨S320x5x1x26x26, .f32⟩
  | 25 => ⟨S320x5x26x26, .f32⟩
  | 26 => ⟨S320x5x1x26x26, .f32⟩
  | 27 => ⟨S320x5x26x26, .f32⟩
  | 28 => ⟨S320x5x1x26x26, .f32⟩
  | 29 => ⟨S320x5x26x26, .f32⟩
  | 30 => ⟨S320x5x26x26, .f32⟩
  | 31 => ⟨S320x5x26x26, .f32⟩
  | 32 => ⟨S_, .f32⟩
  | 33 => ⟨S320x5x26x26, .f32⟩
  | 34 => ⟨S320x5x26x26, .f32⟩
  | 35 => ⟨S_, .f32⟩
  | 36 => ⟨S320x5x26x26, .f32⟩
  | 37 => ⟨S320x5x26x26, .f32⟩
  | 38 => ⟨S320x5x1x26x26, .f32⟩
  | 39 => ⟨S320x5x26x26, .f32⟩
  | 40 => ⟨S16x20x3380, .f32⟩
  | 41 => ⟨S16x3380x20, .f32⟩
  | 42 => ⟨S26, .f32⟩
  | 43 => ⟨S1x1x1x26, .f32⟩
  | 44 => ⟨S26, .f32⟩
  | 45 => ⟨S1x1x26x1, .f32⟩
  | 46 => ⟨S5x1, .f32⟩
  | 47 => ⟨S5, .f32⟩
  | 48 => ⟨S1x5x1x1, .f32⟩
  | 49 => ⟨S5x1, .f32⟩
  | 50 => ⟨S5, .f32⟩
  | 51 => ⟨S1x5x1x1, .f32⟩
  | 52 => ⟨S320x5x26x26, .f32⟩
  | 53 => ⟨S320x5x26x26, .f32⟩
  | 54 => ⟨S320x5x26x26, .f32⟩
  | 55 => ⟨S320x5x26x26, .f32⟩
  | 56 => ⟨S320x5x26x26, .f32⟩
  | 57 => ⟨S320x5x26x26, .f32⟩
  | 58 => ⟨S320x5x26x26, .f32⟩
  | 59 => ⟨S320x5x26x26, .f32⟩
  | 60 => ⟨S320x5x26x26, .f32⟩
  | 61 => ⟨S320x5x26x26, .f32⟩
  | 62 => ⟨S320x5x26x26x1, .f32⟩
  | 63 => ⟨S320x5x26x26x1, .f32⟩
  | 64 => ⟨S320x5x26x26x1, .f32⟩
  | 65 => ⟨S320x5x26x26x1, .f32⟩
  | 66 => ⟨S320x5x26x26x4, .f32⟩
  | 67 => ⟨S320x3380x4, .f32⟩
  | 68 => ⟨S320x10x5, .f32⟩
  | 69 => ⟨S320x10x1, .f32⟩
  | 70 => ⟨S320x10, .f32⟩
  | 71 => ⟨S_, .f32⟩
  | 72 => ⟨S320x10, .f32⟩
  | 73 => ⟨S320x10, .f32⟩
  | 74 => ⟨S320x10, .i32⟩
  | 75 => ⟨S_, .i32⟩
  | 76 => ⟨S_, .i32⟩
  | 77 => ⟨S_, .i32⟩
  | 78 => ⟨S320x10, .i32⟩
  | 79 => ⟨S320x10, .i32⟩
  | 80 => ⟨S_, .i32⟩
  | 81 => ⟨S320x10, .i32⟩
  | 82 => ⟨S320x10, .i32⟩
  | 83 => ⟨S320x10x1, .f32⟩
  | 84 => ⟨S320x10, .f32⟩
  | 85 => ⟨S_, .f32⟩
  | 86 => ⟨S320x10, .f32⟩
  | 87 => ⟨S320x10, .f32⟩
  | 88 => ⟨S320x10x1, .f32⟩
  | 89 => ⟨S320x10, .f32⟩
  | 90 => ⟨S_, .f32⟩
  | 91 => ⟨S320x10, .f32⟩
  | 92 => ⟨S320x10, .f32⟩
  | 93 => ⟨S320x10x1, .f32⟩
  | 94 => ⟨S320x10, .f32⟩
  | 95 => ⟨S_, .f32⟩
  | 96 => ⟨S320x10, .f32⟩
  | 97 => ⟨S320x10, .f32⟩
  | 98 => ⟨S320x10x1, .f32⟩
  | 99 => ⟨S320x10, .f32⟩
  | 100 => ⟨S_, .f32⟩
  | 101 => ⟨S320x10, .f32⟩
  | 102 => ⟨S320x10, .f32⟩
  | 103 => ⟨S320x10x1, .f32⟩
  | 104 => ⟨S320x10, .f32⟩
  | 105 => ⟨S_, .f32⟩
  | 106 => ⟨S320x10, .f32⟩
  | 107 => ⟨S320x10, .i1⟩
  | 108 => ⟨S320x10x1, .f32⟩
  | 109 => ⟨S320x10x1, .f32⟩
  | 110 => ⟨S320x10x1, .f32⟩
  | 111 => ⟨S320x10x1, .f32⟩
  | 112 => ⟨S320x10x4, .f32⟩
  | 113 => ⟨S320x1x3380x4, .f32⟩
  | 114 => ⟨S320x10x1x4, .f32⟩
  | 115 => ⟨S320x1x3380x1, .f32⟩
  | 116 => ⟨S320x1x3380, .f32⟩
  | 117 => ⟨S320x1x3380x1, .f32⟩
  | 118 => ⟨S320x1x3380, .f32⟩
  | 119 => ⟨S320x1x3380x1, .f32⟩
  | 120 => ⟨S320x1x3380, .f32⟩
  | 121 => ⟨S320x1x3380x1, .f32⟩
  | 122 => ⟨S320x1x3380, .f32⟩
  | 123 => ⟨S320x10x1x1, .f32⟩
  | 124 => ⟨S320x10x1, .f32⟩
  | 125 => ⟨S320x10x1x1, .f32⟩
  | 126 => ⟨S320x10x1, .f32⟩
  | 127 => ⟨S320x10x1x1, .f32⟩
  | _ => ⟨S320x30x26x26, .f32⟩

abbrev hbmTy0_1 (i : Nat) : BufTy := match i % 128 with
  | 0 => ⟨S320x10x1, .f32⟩
  | 1 => ⟨S320x10x1x1, .f32⟩
  | 2 => ⟨S320x10x1, .f32⟩
  | 3 => ⟨S_, .f32⟩
  | 4 => ⟨S320x1x3380, .f32⟩
  | 5 => ⟨S320x1x3380, .f32⟩
  | 6 => ⟨S320x1x3380, .f32⟩
  | 7 => ⟨S_, .f32⟩
  | 8 => ⟨S320x10x1, .f32⟩
  | 9 => ⟨S320x10x1, .f32⟩
  | 10 => ⟨S320x10x1, .f32⟩
  | 11 => ⟨S320x10x3380, .f32⟩
  | 12 => ⟨S320x10x3380, .f32⟩
  | 13 => ⟨S320x10x3380, .f32⟩
  | 14 => ⟨S_, .f32⟩
  | 15 => ⟨S320x1x3380, .f32⟩
  | 16 => ⟨S320x1x3380, .f32⟩
  | 17 => ⟨S320x1x3380, .f32⟩
  | 18 => ⟨S_, .f32⟩
  | 19 => ⟨S320x10x1, .f32⟩
  | 20 => ⟨S320x10x1, .f32⟩
  | 21 => ⟨S320x10x1, .f32⟩
  | 22 => ⟨S320x10x3380, .f32⟩
  | 23 => ⟨S320x10x3380, .f32⟩
  | 24 => ⟨S320x10x3380, .f32⟩
  | 25 => ⟨S_, .f32⟩
  | 26 => ⟨S320x1x3380, .f32⟩
  | 27 => ⟨S320x1x3380, .f32⟩
  | 28 => ⟨S320x1x3380, .f32⟩
  | 29 => ⟨S_, .f32⟩
  | 30 => ⟨S320x10x1, .f32⟩
  | 31 => ⟨S320x10x1, .f32⟩
  | 32 => ⟨S320x10x1, .f32⟩
  | 33 => ⟨S320x10x3380, .f32⟩
  | 34 => ⟨S320x10x3380, .f32⟩
  | 35 => ⟨S320x10x3380, .f32⟩
  | 36 => ⟨S_, .f32⟩
  | 37 => ⟨S320x1x3380, .f32⟩
  | 38 => ⟨S320x1x3380, .f32⟩
  | 39 => ⟨S320x1x3380, .f32⟩
  | 40 => ⟨S_, .f32⟩
  | 41 => ⟨S320x10x1, .f32⟩
  | 42 => ⟨S320x10x1, .f32⟩
  | 43 => ⟨S320x10x1, .f32⟩
  | 44 => ⟨S320x10x3380, .f32⟩
  | 45 => ⟨S320x10x3380, .f32⟩
  | 46 => ⟨S320x10x3380, .f32⟩
  | 47 => ⟨S320x10x3380, .f32⟩
  | 48 => ⟨S320x10x3380, .f32⟩
  | 49 => ⟨S320x10x3380, .f32⟩
  | 50 => ⟨S320x10x3380, .f32⟩
  | 51 => ⟨S320x10x3380, .f32⟩
  | 52 => ⟨S320x10x3380, .f32⟩
  | 53 => ⟨S_, .f32⟩
  | 54 => ⟨S320x10x3380, .f32⟩
  | 55 => ⟨S320x10x3380, .f32⟩
  | 56 => ⟨S320x10x3380, .f32⟩
  | 57 => ⟨S320x10x3380, .f32⟩
  | 58 => ⟨S320x10x3380, .f32⟩
  | 59 => ⟨S320x10x3380, .f32⟩
  | 60 => ⟨S_, .f32⟩
  | 61 => ⟨S320x10x3380, .f32⟩
  | 62 => ⟨S320x10x3380, .f32⟩
  | 63 => ⟨S320x10x3380, .f32⟩
  | 64 => ⟨S320x1x3380, .f32⟩
  | 65 => ⟨S320x10x1, .f32⟩
  | 66 => ⟨S320x10x3380, .f32⟩
  | 67 => ⟨S320x10x3380, .f32⟩
  | 68 => ⟨S320x10x3380, .f32⟩
  | 69 => ⟨S320x10x3380, .f32⟩
  | 70 => ⟨S_, .f32⟩
  | 71 => ⟨S320x10x3380, .f32⟩
  | 72 => ⟨S320x10x3380, .f32⟩
  | 73 => ⟨S320x10x3380, .f32⟩
  | 74 => ⟨S320x10x1, .i1⟩
  | 75 => ⟨S_, .f32⟩
  | 76 => ⟨S_, .f32⟩
  | 77 => ⟨S320x10x3380, .i1⟩
  | 78 => ⟨S320x10x3380, .f32⟩
  | 79 => ⟨S320x10x3380, .f32⟩
  | 80 => ⟨S_, .f32⟩
  | 81 => ⟨S320x3380, .f32⟩
  | 82 => ⟨S_, .f32⟩
  | 83 => ⟨S320x3380, .f32⟩
  | 84 => ⟨S320x3380, .i1⟩
  | 85 => ⟨S_, .f32⟩
  | 86 => ⟨S_, .f32⟩
  | 87 => ⟨S320x3380, .f32⟩
  | 88 => ⟨S320x3380, .f32⟩
  | 89 => ⟨S320x3380, .f32⟩
  | 90 => ⟨S1081600, .f32⟩
  | 91 => ⟨S_, .f32⟩
  | 92 => ⟨S5x2, .f32⟩
  | 93 => ⟨S5x4, .f32⟩
  | 94 => ⟨S_, .f32⟩
  | 95 => ⟨S320x10, .f32⟩
  | 96 => ⟨S_, .f32⟩
  | 97 => ⟨S320x10, .f32⟩
  | 98 => ⟨S320x10x1, .f32⟩
  | 99 => ⟨S320x10x1, .f32⟩
  | 100 => ⟨S320x10x1, .f32⟩
  | 101 => ⟨S320x10x1, .f32⟩
  | 102 => ⟨S320x10x4, .f32⟩
  | 103 => ⟨S1x1x5x4, .f32⟩
  | 104 => ⟨S320x10x1x4, .f32⟩
  | 105 => ⟨S1x1x5x1, .f32⟩
  | 106 => ⟨S1x1x5, .f32⟩
  | 107 => ⟨S1x1x5x1, .f32⟩
  | 108 => ⟨S1x1x5, .f32⟩
  | 109 => ⟨S1x1x5x1, .f32⟩
  | 110 => ⟨S1x1x5, .f32⟩
  | 111 => ⟨S1x1x5x1, .f32⟩
  | 112 => ⟨S1x1x5, .f32⟩
  | 113 => ⟨S320x10x1x1, .f32⟩
  | 114 => ⟨S320x10x1, .f32⟩
  | 115 => ⟨S320x10x1x1, .f32⟩
  | 116 => ⟨S320x10x1, .f32⟩
  | 117 => ⟨S320x10x1x1, .f32⟩
  | 118 => ⟨S320x10x1, .f32⟩
  | 119 => ⟨S320x10x1x1, .f32⟩
  | 120 => ⟨S320x10x1, .f32⟩
  | 121 => ⟨S_, .f32⟩
  | 122 => ⟨S1x1x5, .f32⟩
  | 123 => ⟨S1x1x5, .f32⟩
  | 124 => ⟨S1x1x5, .f32⟩
  | 125 => ⟨S_, .f32⟩
  | 126 => ⟨S320x10x1, .f32⟩
  | 127 => ⟨S320x10x1, .f32⟩
  | _ => ⟨S320x30x26x26, .f32⟩

abbrev hbmTy0_2 (i : Nat) : BufTy := match i % 128 with
  | 0 => ⟨S320x10x1, .f32⟩
  | 1 => ⟨S320x10x5, .f32⟩
  | 2 => ⟨S320x10x5, .f32⟩
  | 3 => ⟨S320x10x5, .f32⟩
  | 4 => ⟨S_, .f32⟩
  | 5 => ⟨S1x1x5, .f32⟩
  | 6 => ⟨S1x1x5, .f32⟩
  | 7 => ⟨S1x1x5, .f32⟩
  | 8 => ⟨S_, .f32⟩
  | 9 => ⟨S320x10x1, .f32⟩
  | 10 => ⟨S320x10x1, .f32⟩
  | 11 => ⟨S320x10x1, .f32⟩
  | 12 => ⟨S320x10x5, .f32⟩
  | 13 => ⟨S320x10x5, .f32⟩
  | 14 => ⟨S320x10x5, .f32⟩
  | 15 => ⟨S_, .f32⟩
  | 16 => ⟨S1x1x5, .f32⟩
  | 17 => ⟨S1x1x5, .f32⟩
  | 18 => ⟨S1x1x5, .f32⟩
  | 19 => ⟨S_, .f32⟩
  | 20 => ⟨S320x10x1, .f32⟩
  | 21 => ⟨S320x10x1, .f32⟩
  | 22 => ⟨S320x10x1, .f32⟩
  | 23 => ⟨S320x10x5, .f32⟩
  | 24 => ⟨S320x10x5, .f32⟩
  | 25 => ⟨S320x10x5, .f32⟩
  | 26 => ⟨S_, .f32⟩
  | 27 => ⟨S1x1x5, .f32⟩
  | 28 => ⟨S1x1x5, .f32⟩
  | 29 => ⟨S1x1x5, .f32⟩
  | 30 => ⟨S_, .f32⟩
  | 31 => ⟨S320x10x1, .f32⟩
  | 32 => ⟨S320x10x1, .f32⟩
  | 33 => ⟨S320x10x1, .f32⟩
  | 34 => ⟨S320x10x5, .f32⟩
  | 35 => ⟨S320x10x5, .f32⟩
  | 36 => ⟨S320x10x5, .f32⟩
  | 37 => ⟨S320x10x5, .f32⟩
  | 38 => ⟨S320x10x5, .f32⟩
  | 39 => ⟨S320x10x5, .f32⟩
  | 40 => ⟨S320x10x5, .f32⟩
  | 41 => ⟨S320x10x5, .f32⟩
  | 42 => ⟨S320x10x5, .f32⟩
  | 43 => ⟨S_, .f32⟩
  | 44 => ⟨S320x10x5, .f32⟩
  | 45 => ⟨S320x10x5, .f32⟩
  | 46 => ⟨S320x10x5, .f32⟩
  | 47 => ⟨S320x10x5, .f32⟩
  | 48 => ⟨S320x10x5, .f32⟩
  | 49 => ⟨S320x10x5, .f32⟩
  | 50 => ⟨S_, .f32⟩
  | 51 => ⟨S320x10x5, .f32⟩
  | 52 => ⟨S320x10x5, .f32⟩
  | 53 => ⟨S320x10x5, .f32⟩
  | 54 => ⟨S1x1x5, .f32⟩
  | 55 => ⟨S320x10x1, .f32⟩
  | 56 => ⟨S320x10x5, .f32⟩
  | 57 => ⟨S320x10x5, .f32⟩
  | 58 => ⟨S320x10x5, .f32⟩
  | 59 => ⟨S320x10x5, .f32⟩
  | 60 => ⟨S_, .f32⟩
  | 61 => ⟨S320x10x5, .f32⟩
  | 62 => ⟨S320x10x5, .f32⟩
  | 63 => ⟨S320x10x5, .f32⟩
  | 64 => ⟨S_, .f32⟩
  | 65 => ⟨S320x10, .f32⟩
  | 66 => ⟨S320x10x1, .f32⟩
  | 67 => ⟨S320x10x5, .f32⟩
  | 68 => ⟨S320x10x5, .i1⟩
  | 69 => ⟨S5, .i32⟩
  | 70 => ⟨S_, .i32⟩
  | 71 => ⟨S_, .i32⟩
  | 72 => ⟨S320x10x5, .i32⟩
  | 73 => ⟨S320x10x5, .i32⟩
  | 74 => ⟨S320x10x5, .i32⟩
  | 75 => ⟨S_, .i32⟩
  | 76 => ⟨S320x10, .i32⟩
  | 77 => ⟨S320x10, .i32⟩
  | 78 => ⟨S_, .i32⟩
  | 79 => ⟨S_, .i32⟩
  | 80 => ⟨S_, .i32⟩
  | 81 => ⟨S320x10, .i32⟩
  | 82 => ⟨S320x10, .i32⟩
  | 83 => ⟨S_, .i32⟩
  | 84 => ⟨S320x10, .i32⟩
  | 85 => ⟨S320x10, .i32⟩
  | 86 => ⟨S320x10, .i32⟩
  | 87 => ⟨S_, .i32⟩
  | 88 => ⟨S_, .i32⟩
  | 89 => ⟨S_, .i32⟩
  | 90 => ⟨S320x10, .i32⟩
  | 91 => ⟨S320x10, .i32⟩
  | 92 => ⟨S_, .i32⟩
  | 93 => ⟨S320x10, .i32⟩
  | 94 => ⟨S320x10, .i32⟩
  | 95 => ⟨S320, .i32⟩
  | 96 => ⟨S320x1, .i32⟩
  | 97 => ⟨S_, .i32⟩
  | 98 => ⟨S320x1, .i32⟩
  | 99 => ⟨S320x1, .i32⟩
  | 100 => ⟨S_, .i32⟩
  | 101 => ⟨S320x10, .i32⟩
  | 102 => ⟨S320x10, .i32⟩
  | 103 => ⟨S320x10, .i32⟩
  | 104 => ⟨S320x10, .i32⟩
  | 105 => ⟨S_, .i32⟩
  | 106 => ⟨S320x10, .i32⟩
  | 107 => ⟨S320x10, .i32⟩
  | 108 => ⟨S320x10, .i32⟩
  | 109 => ⟨S320x10, .i32⟩
  | 110 => ⟨S_, .i32⟩
  | 111 => ⟨S_, .i32⟩
  | 112 => ⟨S320x10, .i32⟩
  | 113 => ⟨S320x10, .i32⟩
  | 114 => ⟨S3200, .i32⟩
  | 115 => ⟨S_, .i32⟩
  | 116 => ⟨S320x10, .i32⟩
  | 117 => ⟨S320x10, .i1⟩
  | 118 => ⟨S_, .i32⟩
  | 119 => ⟨S320x10, .i32⟩
  | 120 => ⟨S320x10, .i32⟩
  | 121 => ⟨S320x10, .i32⟩
  | 122 => ⟨S_, .i32⟩
  | 123 => ⟨S320x10, .i32⟩
  | 124 => ⟨S320x10, .i32⟩
  | 125 => ⟨S320x10x1, .i32⟩
  | 126 => ⟨S320x10x1, .i32⟩
  | 127 => ⟨S320x10x2, .i32⟩
  | _ => ⟨S320x30x26x26, .f32⟩

abbrev hbmTy0_3 (i : Nat) : BufTy := match i % 128 with
  | 0 => ⟨S320x10, .f32⟩
  | 1 => ⟨S_, .i32⟩
  | 2 => ⟨S320x10, .i32⟩
  | 3 => ⟨S320x10, .i1⟩
  | 4 => ⟨S_, .i32⟩
  | 5 => ⟨S320x10, .i32⟩
  | 6 => ⟨S320x10, .i32⟩
  | 7 => ⟨S320x10, .i32⟩
  | 8 => ⟨S_, .i32⟩
  | 9 => ⟨S320x10, .i32⟩
  | 10 => ⟨S320x10, .i32⟩
  | 11 => ⟨S320x10x1, .i32⟩
  | 12 => ⟨S320x10x1, .i32⟩
  | 13 => ⟨S320x10x2, .i32⟩
  | 14 => ⟨S320x10, .f32⟩
  | 15 => ⟨S320x10, .f32⟩
  | 16 => ⟨S320x10, .f32⟩
  | 17 => ⟨S3200, .f32⟩
  | 18 => ⟨S320x10, .f32⟩
  | 19 => ⟨S320x10, .f32⟩
  | 20 => ⟨S3200, .f32⟩
  | 21 => ⟨S_, .f32⟩
  | 22 => ⟨S320x10, .f32⟩
  | 23 => ⟨S320x10, .f32⟩
  | 24 => ⟨S320x10, .f32⟩
  | 25 => ⟨S320x10, .f32⟩
  | 26 => ⟨S3200, .f32⟩
  | 27 => ⟨S_, .f32⟩
  | 28 => ⟨S320x10, .f32⟩
  | 29 => ⟨S320x10, .f32⟩
  | 30 => ⟨S320x10, .f32⟩
  | 31 => ⟨S320x10, .f32⟩
  | 32 => ⟨S3200, .f32⟩
  | 33 => ⟨S1081600x4, .f32⟩
  | 34 => ⟨S_, .i32⟩
  | 35 => ⟨S3200, .i32⟩
  | 36 => ⟨S3200, .i32⟩
  | 37 => ⟨S_, .i32⟩
  | 38 => ⟨S3200, .i32⟩
  | 39 => ⟨S3200, .i1⟩
  | 40 => ⟨S_, .i32⟩
  | 41 => ⟨S3200, .i32⟩
  | 42 => ⟨S3200, .i32⟩
  | 43 => ⟨S3200, .i32⟩
  | 44 => ⟨S3200x1, .i32⟩
  | 45 => ⟨S3200x4, .f32⟩
  | 46 => ⟨S3200x4, .f32⟩
  | 47 => ⟨S3200x1, .f32⟩
  | 48 => ⟨S3200, .f32⟩
  | 49 => ⟨S3200x1, .f32⟩
  | 50 => ⟨S3200, .f32⟩
  | 51 => ⟨S3200x1, .f32⟩
  | 52 => ⟨S3200, .f32⟩
  | 53 => ⟨S3200x1, .f32⟩
  | 54 => ⟨S3200, .f32⟩
  | 55 => ⟨S3200x1, .f32⟩
  | 56 => ⟨S3200, .f32⟩
  | 57 => ⟨S3200x1, .f32⟩
  | 58 => ⟨S3200, .f32⟩
  | 59 => ⟨S3200x1, .f32⟩
  | 60 => ⟨S3200, .f32⟩
  | 61 => ⟨S3200x1, .f32⟩
  | 62 => ⟨S3200, .f32⟩
  | 63 => ⟨S_, .f32⟩
  | 64 => ⟨S3200, .f32⟩
  | 65 => ⟨S3200, .f32⟩
  | 66 => ⟨S3200, .f32⟩
  | 67 => ⟨S_, .f32⟩
  | 68 => ⟨S3200, .f32⟩
  | 69 => ⟨S3200, .f32⟩
  | 70 => ⟨S3200, .f32⟩
  | 71 => ⟨S3200, .f32⟩
  | 72 => ⟨S_, .f32⟩
  | 73 => ⟨S3200, .f32⟩
  | 74 => ⟨S3200, .f32⟩
  | 75 => ⟨S3200, .f32⟩
  | 76 => ⟨S_, .f32⟩
  | 77 => ⟨S3200, .f32⟩
  | 78 => ⟨S3200, .f32⟩
  | 79 => ⟨S3200, .f32⟩
  | 80 => ⟨S3200, .f32⟩
  | 81 => ⟨S_, .f32⟩
  | 82 => ⟨S3200, .f32⟩
  | 83 => ⟨S3200, .f32⟩
  | 84 => ⟨S3200, .f32⟩
  | 85 => ⟨S_, .f32⟩
  | 86 => ⟨S3200, .f32⟩
  | 87 => ⟨S3200, .f32⟩
  | 88 => ⟨S3200, .f32⟩
  | 89 => ⟨S3200, .f32⟩
  | 90 => ⟨S_, .f32⟩
  | 91 => ⟨S3200, .f32⟩
  | 92 => ⟨S3200, .f32⟩
  | 93 => ⟨S3200, .f32⟩
  | 94 => ⟨S_, .f32⟩
  | 95 => ⟨S3200, .f32⟩
  | 96 => ⟨S3200, .f32⟩
  | 97 => ⟨S3200, .f32⟩
  | 98 => ⟨S3200, .f32⟩
  | 99 => ⟨S3200, .f32⟩
  | 100 => ⟨S3200, .f32⟩
  | 101 => ⟨S3200, .f32⟩
  | 102 => ⟨S3200, .f32⟩
  | 103 => ⟨S_, .f32⟩
  | 104 => ⟨S3200, .f32⟩
  | 105 => ⟨S3200, .f32⟩
  | 106 => ⟨S3200, .f32⟩
  | 107 => ⟨S3200, .f32⟩
  | 108 => ⟨S_, .f32⟩
  | 109 => ⟨S3200, .f32⟩
  | 110 => ⟨S3200, .f32⟩
  | 111 => ⟨S3200, .f32⟩
  | 112 => ⟨S3200, .f32⟩
  | 113 => ⟨S3200, .f32⟩
  | 114 => ⟨S3200, .f32⟩
  | 115 => ⟨S3200, .f32⟩
  | 116 => ⟨S_, .f32⟩
  | 117 => ⟨S3200, .f32⟩
  | 118 => ⟨S3200, .f32⟩
  | 119 => ⟨S3200, .f32⟩
  | 120 => ⟨S_, .f32⟩
  | 121 => ⟨S1081600, .f32⟩
  | 122 => ⟨S_, .i32⟩
  | 123 => ⟨S3200, .i32⟩
  | 124 => ⟨S3200, .i1⟩
  | 125 => ⟨S_, .i32⟩
  | 126 => ⟨S3200, .i32⟩
  | 127 => ⟨S3200, .i32⟩
  | _ => ⟨S320x30x26x26, .f32⟩

abbrev hbmTy0_4 (i : Nat) : BufTy := match i % 128 with
  | 0 => ⟨S3200, .i32⟩
  | 1 => ⟨S3200x1, .i32⟩
  | 2 => ⟨S1081600, .f32⟩
  | 3 => ⟨S_, .f32⟩
  | 4 => ⟨S1081600, .f32⟩
  | 5 => ⟨S_, .i32⟩
  | 6 => ⟨S3200, .i32⟩
  | 7 => ⟨S3200, .i1⟩
  | 8 => ⟨S_, .i32⟩
  | 9 => ⟨S3200, .i32⟩
  | 10 => ⟨S3200, .i32⟩
  | 11 => ⟨S3200, .i32⟩
  | 12 => ⟨S3200x1, .i32⟩
  | 13 => ⟨S1081600, .f32⟩
  | 14 => ⟨S_, .f32⟩
  | 15 => ⟨S1081600, .f32⟩
  | 16 => ⟨S_, .i32⟩
  | 17 => ⟨S3200, .i32⟩
  | 18 => ⟨S3200, .i1⟩
  | 19 => ⟨S_, .i32⟩
  | 20 => ⟨S3200, .i32⟩
  | 21 => ⟨S3200, .i32⟩
  | 22 => ⟨S3200, .i32⟩
  | 23 => ⟨S3200x1, .i32⟩
  | 24 => ⟨S1081600, .f32⟩
  | 25 => ⟨S_, .f32⟩
  | 26 => ⟨S1081600, .f32⟩
  | 27 => ⟨S_, .i32⟩
  | 28 => ⟨S3200, .i32⟩
  | 29 => ⟨S3200, .i1⟩
  | 30 => ⟨S_, .i32⟩
  | 31 => ⟨S3200, .i32⟩
  | 32 => ⟨S3200, .i32⟩
  | 33 => ⟨S3200, .i32⟩
  | 34 => ⟨S3200x1, .i32⟩
  | 35 => ⟨S1081600, .f32⟩
  | 36 => ⟨S_, .f32⟩
  | 37 => ⟨S1081600, .f32⟩
  | 38 => ⟨S_, .i32⟩
  | 39 => ⟨S3200, .i32⟩
  | 40 => ⟨S3200, .i1⟩
  | 41 => ⟨S_, .i32⟩
  | 42 => ⟨S3200, .i32⟩
  | 43 => ⟨S3200, .i32⟩
  | 44 => ⟨S3200, .i32⟩
  | 45 => ⟨S3200x1, .i32⟩
  | 46 => ⟨S1081600, .f32⟩
  | 47 => ⟨S_, .f32⟩
  | 48 => ⟨S1081600, .f32⟩
  | 49 => ⟨S_, .i32⟩
  | 50 => ⟨S3200, .i32⟩
  | 51 => ⟨S3200, .i1⟩
  | 52 => ⟨S_, .i32⟩
  | 53 => ⟨S3200, .i32⟩
  | 54 => ⟨S3200, .i32⟩
  | 55 => ⟨S3200, .i32⟩
  | 56 => ⟨S3200x1, .i32⟩
  | 57 => ⟨S_, .f32⟩
  | 58 => ⟨S3200, .f32⟩
  | 59 => ⟨S1081600, .f32⟩
  | 60 => ⟨S320, .i32⟩
  | 61 => ⟨S320x1, .i32⟩
  | 62 => ⟨S_, .i32⟩
  | 63 => ⟨S_, .i32⟩
  | 64 => ⟨S320x1, .i32⟩
  | 65 => ⟨S320x1, .i32⟩
  | 66 => ⟨S320x1, .i32⟩
  | 67 => ⟨S_, .i32⟩
  | 68 => ⟨S320x1, .i32⟩
  | 69 => ⟨S320x1, .i1⟩
  | 70 => ⟨S320x1, .i32⟩
  | 71 => ⟨S320x1, .i32⟩
  | 72 => ⟨S_, .i32⟩
  | 73 => ⟨S320x1, .i32⟩
  | 74 => ⟨S320x1, .i1⟩
  | 75 => ⟨S320x1, .i1⟩
  | 76 => ⟨S_, .i32⟩
  | 77 => ⟨S320x1, .i32⟩
  | 78 => ⟨S320x1, .i32⟩
  | 79 => ⟨S320x1, .i32⟩
  | 80 => ⟨S_, .i32⟩
  | 81 => ⟨S320x1, .i32⟩
  | 82 => ⟨S320x1, .i32⟩
  | 83 => ⟨S_, .i32⟩
  | 84 => ⟨S320x10, .i32⟩
  | 85 => ⟨S320x10, .i32⟩
  | 86 => ⟨S320x10, .i32⟩
  | 87 => ⟨S320x10, .i32⟩
  | 88 => ⟨S_, .i32⟩
  | 89 => ⟨S320x10, .i32⟩
  | 90 => ⟨S320x10, .i32⟩
  | 91 => ⟨S320x10, .i32⟩
  | 92 => ⟨S320x10, .i32⟩
  | 93 => ⟨S_, .i32⟩
  | 94 => ⟨S_, .i32⟩
  | 95 => ⟨S320x10, .i32⟩
  | 96 => ⟨S320x10, .i32⟩
  | 97 => ⟨S3200, .i32⟩
  | 98 => ⟨S_, .f32⟩
  | 99 => ⟨S54080, .f32⟩
  | 100 => ⟨S_, .i32⟩
  | 101 => ⟨S3200, .i32⟩
  | 102 => ⟨S3200, .i1⟩
  | 103 => ⟨S_, .i32⟩
  | 104 => ⟨S3200, .i32⟩
  | 105 => ⟨S3200, .i32⟩
  | 106 => ⟨S3200, .i32⟩
  | 107 => ⟨S3200x1, .i32⟩
  | 108 => ⟨S_, .f32⟩
  | 109 => ⟨S3200, .f32⟩
  | 110 => ⟨S54080, .f32⟩
  | 111 => ⟨S_, .i32⟩
  | 112 => ⟨S54080, .i32⟩
  | 113 => ⟨S3200, .i32⟩
  | 114 => ⟨S_, .i32⟩
  | 115 => ⟨S3200, .i32⟩
  | 116 => ⟨S3200, .i1⟩
  | 117 => ⟨S_, .i32⟩
  | 118 => ⟨S3200, .i32⟩
  | 119 => ⟨S3200, .i32⟩
  | 120 => ⟨S3200, .i32⟩
  | 121 => ⟨S3200x1, .i32⟩
  | 122 => ⟨S54080, .i32⟩
  | 123 => ⟨S54080x20, .f32⟩
  | 124 => ⟨S_, .f32⟩
  | 125 => ⟨S54080, .f32⟩
  | 126 => ⟨S_, .f32⟩
  | 127 => ⟨S54080, .f32⟩
  | _ => ⟨S320x30x26x26, .f32⟩

abbrev hbmTy0_5 (i : Nat) : BufTy := match i % 128 with
  | 0 => ⟨S54080, .f32⟩
  | 1 => ⟨S54080x1, .f32⟩
  | 2 => ⟨S54080x20, .f32⟩
  | 3 => ⟨S54080x20, .f32⟩
  | 4 => ⟨S54080x20, .f32⟩
  | 5 => ⟨S_, .f32⟩
  | 6 => ⟨S54080, .f32⟩
  | 7 => ⟨S54080x1, .f32⟩
  | 8 => ⟨S54080x1, .f32⟩
  | 9 => ⟨S54080x20, .f32⟩
  | 10 => ⟨S54080x20, .f32⟩
  | 11 => ⟨S54080x1, .i32⟩
  | 12 => ⟨S_, .i32⟩
  | 13 => ⟨S54080x1, .i32⟩
  | 14 => ⟨S54080x1, .i1⟩
  | 15 => ⟨S_, .i32⟩
  | 16 => ⟨S54080x1, .i32⟩
  | 17 => ⟨S54080x1, .i32⟩
  | 18 => ⟨S54080x1, .i32⟩
  | 19 => ⟨S54080x1x1, .i32⟩
  | 20 => ⟨S1, .i32⟩
  | 21 => ⟨S_, .i32⟩
  | 22 => ⟨S54080x1x1, .i32⟩
  | 23 => ⟨S54080x1x1, .i1⟩
  | 24 => ⟨S1x1x1, .i32⟩
  | 25 => ⟨S54080x1x1, .i32⟩
  | 26 => ⟨S54080x1x1, .i1⟩
  | 27 => ⟨S54080x1x1, .i1⟩
  | 28 => ⟨S_, .i1⟩
  | 29 => ⟨S54080x1, .i1⟩
  | 30 => ⟨S54080x1, .f32⟩
  | 31 => ⟨S_, .f32⟩
  | 32 => ⟨S54080x1, .f32⟩
  | 33 => ⟨S54080x1, .f32⟩
  | 34 => ⟨S54080, .f32⟩
  | 35 => ⟨S54080, .f32⟩
  | 36 => ⟨S54080, .f32⟩
  | 37 => ⟨S_, .f32⟩
  | 38 => ⟨S_, .f32⟩
  | 39 => ⟨S_, .f32⟩
  | 40 => ⟨S_, .f32⟩
  | 41 => ⟨S1081600, .f32⟩
  | 42 => ⟨S1081600, .f32⟩
  | 43 => ⟨S1081600, .f32⟩
  | 44 => ⟨S1081600, .f32⟩
  | 45 => ⟨S1081600, .f32⟩
  | 46 => ⟨S1081600, .f32⟩
  | 47 => ⟨S1081600, .f32⟩
  | 48 => ⟨S1081600, .f32⟩
  | 49 => ⟨S_, .f32⟩
  | 50 => ⟨S_, .f32⟩
  | 51 => ⟨S_, .f32⟩
  | 52 => ⟨S_, .f32⟩
  | 53 => ⟨S1081600, .f32⟩
  | 54 => ⟨S1081600, .f32⟩
  | 55 => ⟨S1081600, .f32⟩
  | 56 => ⟨S_, .f32⟩
  | 57 => ⟨S_, .f32⟩
  | 58 => ⟨S_, .f32⟩
  | 59 => ⟨S_, .f32⟩
  | 60 => ⟨S1081600, .f32⟩
  | 61 => ⟨S1081600, .f32⟩
  | 62 => ⟨S1081600, .f32⟩
  | 63 => ⟨S_, .f32⟩
  | 64 => ⟨S_, .f32⟩
  | 65 => ⟨S_, .f32⟩
  | 66 => ⟨S_, .f32⟩
  | 67 => ⟨S1081600, .f32⟩
  | 68 => ⟨S1081600, .f32⟩
  | 69 => ⟨S1081600, .f32⟩
  | 70 => ⟨S_, .f32⟩
  | 71 => ⟨S_, .f32⟩
  | 72 => ⟨S_, .f32⟩
  | 73 => ⟨S_, .f32⟩
  | 74 => ⟨S1081600, .f32⟩
  | 75 => ⟨S1081600, .f32⟩
  | 76 => ⟨S1081600, .f32⟩
  | 77 => ⟨S1081600, .f32⟩
  | 78 => ⟨S_, .f32⟩
  | 79 => ⟨S_, .f32⟩
  | 80 => ⟨S_, .f32⟩
  | 81 => ⟨S_, .f32⟩
  | 82 => ⟨S_, .f32⟩
  | 83 => ⟨S_, .f32⟩
  | 84 => ⟨S_, .f32⟩
  | 85 => ⟨S_, .f32⟩
  | 86 => ⟨S_, .f32⟩
  | _ => ⟨S320x30x26x26, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S320x30x26x26, .f32⟩

abbrev bufTy : (tb : Table) → Fin (tcTables nBuf tb) → BufTy
  | .hbm, ⟨i, _⟩ => hbmTy i
  | _, _ => ⟨S320x30x26x26, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_4 : Ref sig .tc := ⟨.hbm, 32, rfl⟩
abbrev main_v25 : Ref sig .tc := ⟨.hbm, 33, rfl⟩
abbrev main_v26 : Ref sig .tc := ⟨.hbm, 34, rfl⟩
abbrev main_cst_5 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_cst_6 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_c : Ref sig .tc := ⟨.hbm, 75, rfl⟩
abbrev main_c_7 : Ref sig .tc := ⟨.hbm, 76, rfl⟩
abbrev main_call0_v0 : Ref sig .tc := ⟨.hbm, 77, rfl⟩
abbrev main_call0_v1 : Ref sig .tc := ⟨.hbm, 78, rfl⟩
abbrev main_call0_v2 : Ref sig .tc := ⟨.hbm, 79, rfl⟩
abbrev main_call0_v3 : Ref sig .tc := ⟨.hbm, 80, rfl⟩
abbrev main_call0_v4 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_cst_8 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_cst_9 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_cst_10 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_cst_11 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_cst_12 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_cst_13 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_cst_14 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_cst_15 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩
abbrev main_cst_16 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_v125 : Ref sig .tc := ⟨.hbm, 151, rfl⟩
abbrev main_v126 : Ref sig .tc := ⟨.hbm, 152, rfl⟩
abbrev main_cst_17 : Ref sig .tc := ⟨.hbm, 153, rfl⟩
abbrev main_v127 : Ref sig .tc := ⟨.hbm, 154, rfl⟩
abbrev main_v128 : Ref sig .tc := ⟨.hbm, 155, rfl⟩
abbrev main_v129 : Ref sig .tc := ⟨.hbm, 156, rfl⟩
abbrev main_cst_18 : Ref sig .tc := ⟨.hbm, 157, rfl⟩
abbrev main_v130 : Ref sig .tc := ⟨.hbm, 158, rfl⟩
abbrev main_v131 : Ref sig .tc := ⟨.hbm, 159, rfl⟩
abbrev main_v132 : Ref sig .tc := ⟨.hbm, 160, rfl⟩
abbrev main_v133 : Ref sig .tc := ⟨.hbm, 161, rfl⟩
abbrev main_v134 : Ref sig .tc := ⟨.hbm, 162, rfl⟩
abbrev main_v135 : Ref sig .tc := ⟨.hbm, 163, rfl⟩
abbrev main_cst_19 : Ref sig .tc := ⟨.hbm, 164, rfl⟩
abbrev main_v136 : Ref sig .tc := ⟨.hbm, 165, rfl⟩
abbrev main_v137 : Ref sig .tc := ⟨.hbm, 166, rfl⟩
abbrev main_v138 : Ref sig .tc := ⟨.hbm, 167, rfl⟩
abbrev main_cst_20 : Ref sig .tc := ⟨.hbm, 168, rfl⟩
abbrev main_v139 : Ref sig .tc := ⟨.hbm, 169, rfl⟩
abbrev main_v140 : Ref sig .tc := ⟨.hbm, 170, rfl⟩
abbrev main_v141 : Ref sig .tc := ⟨.hbm, 171, rfl⟩
abbrev main_v142 : Ref sig .tc := ⟨.hbm, 172, rfl⟩
abbrev main_v143 : Ref sig .tc := ⟨.hbm, 173, rfl⟩
abbrev main_v144 : Ref sig .tc := ⟨.hbm, 174, rfl⟩
abbrev main_v145 : Ref sig .tc := ⟨.hbm, 175, rfl⟩
abbrev main_v146 : Ref sig .tc := ⟨.hbm, 176, rfl⟩
abbrev main_v147 : Ref sig .tc := ⟨.hbm, 177, rfl⟩
abbrev main_v148 : Ref sig .tc := ⟨.hbm, 178, rfl⟩
abbrev main_v149 : Ref sig .tc := ⟨.hbm, 179, rfl⟩
abbrev main_v150 : Ref sig .tc := ⟨.hbm, 180, rfl⟩
abbrev main_cst_21 : Ref sig .tc := ⟨.hbm, 181, rfl⟩
abbrev main_v151 : Ref sig .tc := ⟨.hbm, 182, rfl⟩
abbrev main_v152 : Ref sig .tc := ⟨.hbm, 183, rfl⟩
abbrev main_v153 : Ref sig .tc := ⟨.hbm, 184, rfl⟩
abbrev main_v154 : Ref sig .tc := ⟨.hbm, 185, rfl⟩
abbrev main_v155 : Ref sig .tc := ⟨.hbm, 186, rfl⟩
abbrev main_v156 : Ref sig .tc := ⟨.hbm, 187, rfl⟩
abbrev main_cst_22 : Ref sig .tc := ⟨.hbm, 188, rfl⟩
abbrev main_v157 : Ref sig .tc := ⟨.hbm, 189, rfl⟩
abbrev main_v158 : Ref sig .tc := ⟨.hbm, 190, rfl⟩
abbrev main_v159 : Ref sig .tc := ⟨.hbm, 191, rfl⟩
abbrev main_v160 : Ref sig .tc := ⟨.hbm, 192, rfl⟩
abbrev main_v161 : Ref sig .tc := ⟨.hbm, 193, rfl⟩
abbrev main_v162 : Ref sig .tc := ⟨.hbm, 194, rfl⟩
abbrev main_v163 : Ref sig .tc := ⟨.hbm, 195, rfl⟩
abbrev main_v164 : Ref sig .tc := ⟨.hbm, 196, rfl⟩
abbrev main_v165 : Ref sig .tc := ⟨.hbm, 197, rfl⟩
abbrev main_cst_23 : Ref sig .tc := ⟨.hbm, 198, rfl⟩
abbrev main_v166 : Ref sig .tc := ⟨.hbm, 199, rfl⟩
abbrev main_v167 : Ref sig .tc := ⟨.hbm, 200, rfl⟩
abbrev main_v168 : Ref sig .tc := ⟨.hbm, 201, rfl⟩
abbrev main_v169 : Ref sig .tc := ⟨.hbm, 202, rfl⟩
abbrev main_cst_24 : Ref sig .tc := ⟨.hbm, 203, rfl⟩
abbrev main_call1_v0 : Ref sig .tc := ⟨.hbm, 204, rfl⟩
abbrev main_call1_v1 : Ref sig .tc := ⟨.hbm, 205, rfl⟩
abbrev main_call1_v2 : Ref sig .tc := ⟨.hbm, 206, rfl⟩
abbrev main_v170 : Ref sig .tc := ⟨.hbm, 207, rfl⟩
abbrev main_cst_25 : Ref sig .tc := ⟨.hbm, 208, rfl⟩
abbrev main_v171 : Ref sig .tc := ⟨.hbm, 209, rfl⟩
abbrev main_cst_26 : Ref sig .tc := ⟨.hbm, 210, rfl⟩
abbrev main_v172 : Ref sig .tc := ⟨.hbm, 211, rfl⟩
abbrev main_v173 : Ref sig .tc := ⟨.hbm, 212, rfl⟩
abbrev main_cst_27 : Ref sig .tc := ⟨.hbm, 213, rfl⟩
abbrev main_cst_28 : Ref sig .tc := ⟨.hbm, 214, rfl⟩
abbrev main_call2_v0 : Ref sig .tc := ⟨.hbm, 215, rfl⟩
abbrev main_call2_v1 : Ref sig .tc := ⟨.hbm, 216, rfl⟩
abbrev main_v174 : Ref sig .tc := ⟨.hbm, 217, rfl⟩
abbrev main_v175 : Ref sig .tc := ⟨.hbm, 218, rfl⟩
abbrev main_cst_29 : Ref sig .tc := ⟨.hbm, 219, rfl⟩
abbrev main_v176 : Ref sig .tc := ⟨.hbm, 220, rfl⟩
abbrev main_v177 : Ref sig .tc := ⟨.hbm, 221, rfl⟩
abbrev main_cst_30 : Ref sig .tc := ⟨.hbm, 222, rfl⟩
abbrev main_v178 : Ref sig .tc := ⟨.hbm, 223, rfl⟩
abbrev main_cst_31 : Ref sig .tc := ⟨.hbm, 224, rfl⟩
abbrev main_v179 : Ref sig .tc := ⟨.hbm, 225, rfl⟩
abbrev main_v180 : Ref sig .tc := ⟨.hbm, 226, rfl⟩
abbrev main_v181 : Ref sig .tc := ⟨.hbm, 227, rfl⟩
abbrev main_v182 : Ref sig .tc := ⟨.hbm, 228, rfl⟩
abbrev main_v183 : Ref sig .tc := ⟨.hbm, 229, rfl⟩
abbrev main_v184 : Ref sig .tc := ⟨.hbm, 230, rfl⟩
abbrev main_v185 : Ref sig .tc := ⟨.hbm, 231, rfl⟩
abbrev main_v186 : Ref sig .tc := ⟨.hbm, 232, rfl⟩
abbrev main_v187 : Ref sig .tc := ⟨.hbm, 233, rfl⟩
abbrev main_v188 : Ref sig .tc := ⟨.hbm, 234, rfl⟩
abbrev main_v189 : Ref sig .tc := ⟨.hbm, 235, rfl⟩
abbrev main_v190 : Ref sig .tc := ⟨.hbm, 236, rfl⟩
abbrev main_v191 : Ref sig .tc := ⟨.hbm, 237, rfl⟩
abbrev main_v192 : Ref sig .tc := ⟨.hbm, 238, rfl⟩
abbrev main_v193 : Ref sig .tc := ⟨.hbm, 239, rfl⟩
abbrev main_v194 : Ref sig .tc := ⟨.hbm, 240, rfl⟩
abbrev main_v195 : Ref sig .tc := ⟨.hbm, 241, rfl⟩
abbrev main_v196 : Ref sig .tc := ⟨.hbm, 242, rfl⟩
abbrev main_v197 : Ref sig .tc := ⟨.hbm, 243, rfl⟩
abbrev main_v198 : Ref sig .tc := ⟨.hbm, 244, rfl⟩
abbrev main_v199 : Ref sig .tc := ⟨.hbm, 245, rfl⟩
abbrev main_v200 : Ref sig .tc := ⟨.hbm, 246, rfl⟩
abbrev main_v201 : Ref sig .tc := ⟨.hbm, 247, rfl⟩
abbrev main_v202 : Ref sig .tc := ⟨.hbm, 248, rfl⟩
abbrev main_cst_32 : Ref sig .tc := ⟨.hbm, 249, rfl⟩
abbrev main_v203 : Ref sig .tc := ⟨.hbm, 250, rfl⟩
abbrev main_v204 : Ref sig .tc := ⟨.hbm, 251, rfl⟩
abbrev main_v205 : Ref sig .tc := ⟨.hbm, 252, rfl⟩
abbrev main_cst_33 : Ref sig .tc := ⟨.hbm, 253, rfl⟩
abbrev main_v206 : Ref sig .tc := ⟨.hbm, 254, rfl⟩
abbrev main_v207 : Ref sig .tc := ⟨.hbm, 255, rfl⟩
abbrev main_v208 : Ref sig .tc := ⟨.hbm, 256, rfl⟩
abbrev main_v209 : Ref sig .tc := ⟨.hbm, 257, rfl⟩
abbrev main_v210 : Ref sig .tc := ⟨.hbm, 258, rfl⟩
abbrev main_v211 : Ref sig .tc := ⟨.hbm, 259, rfl⟩
abbrev main_cst_34 : Ref sig .tc := ⟨.hbm, 260, rfl⟩
abbrev main_v212 : Ref sig .tc := ⟨.hbm, 261, rfl⟩
abbrev main_v213 : Ref sig .tc := ⟨.hbm, 262, rfl⟩
abbrev main_v214 : Ref sig .tc := ⟨.hbm, 263, rfl⟩
abbrev main_cst_35 : Ref sig .tc := ⟨.hbm, 264, rfl⟩
abbrev main_v215 : Ref sig .tc := ⟨.hbm, 265, rfl⟩
abbrev main_v216 : Ref sig .tc := ⟨.hbm, 266, rfl⟩
abbrev main_v217 : Ref sig .tc := ⟨.hbm, 267, rfl⟩
abbrev main_v218 : Ref sig .tc := ⟨.hbm, 268, rfl⟩
abbrev main_v219 : Ref sig .tc := ⟨.hbm, 269, rfl⟩
abbrev main_v220 : Ref sig .tc := ⟨.hbm, 270, rfl⟩
abbrev main_cst_36 : Ref sig .tc := ⟨.hbm, 271, rfl⟩
abbrev main_v221 : Ref sig .tc := ⟨.hbm, 272, rfl⟩
abbrev main_v222 : Ref sig .tc := ⟨.hbm, 273, rfl⟩
abbrev main_v223 : Ref sig .tc := ⟨.hbm, 274, rfl⟩
abbrev main_cst_37 : Ref sig .tc := ⟨.hbm, 275, rfl⟩
abbrev main_v224 : Ref sig .tc := ⟨.hbm, 276, rfl⟩
abbrev main_v225 : Ref sig .tc := ⟨.hbm, 277, rfl⟩
abbrev main_v226 : Ref sig .tc := ⟨.hbm, 278, rfl⟩
abbrev main_v227 : Ref sig .tc := ⟨.hbm, 279, rfl⟩
abbrev main_v228 : Ref sig .tc := ⟨.hbm, 280, rfl⟩
abbrev main_v229 : Ref sig .tc := ⟨.hbm, 281, rfl⟩
abbrev main_cst_38 : Ref sig .tc := ⟨.hbm, 282, rfl⟩
abbrev main_v230 : Ref sig .tc := ⟨.hbm, 283, rfl⟩
abbrev main_v231 : Ref sig .tc := ⟨.hbm, 284, rfl⟩
abbrev main_v232 : Ref sig .tc := ⟨.hbm, 285, rfl⟩
abbrev main_cst_39 : Ref sig .tc := ⟨.hbm, 286, rfl⟩
abbrev main_v233 : Ref sig .tc := ⟨.hbm, 287, rfl⟩
abbrev main_v234 : Ref sig .tc := ⟨.hbm, 288, rfl⟩
abbrev main_v235 : Ref sig .tc := ⟨.hbm, 289, rfl⟩
abbrev main_v236 : Ref sig .tc := ⟨.hbm, 290, rfl⟩
abbrev main_v237 : Ref sig .tc := ⟨.hbm, 291, rfl⟩
abbrev main_v238 : Ref sig .tc := ⟨.hbm, 292, rfl⟩
abbrev main_v239 : Ref sig .tc := ⟨.hbm, 293, rfl⟩
abbrev main_v240 : Ref sig .tc := ⟨.hbm, 294, rfl⟩
abbrev main_v241 : Ref sig .tc := ⟨.hbm, 295, rfl⟩
abbrev main_v242 : Ref sig .tc := ⟨.hbm, 296, rfl⟩
abbrev main_v243 : Ref sig .tc := ⟨.hbm, 297, rfl⟩
abbrev main_v244 : Ref sig .tc := ⟨.hbm, 298, rfl⟩
abbrev main_cst_40 : Ref sig .tc := ⟨.hbm, 299, rfl⟩
abbrev main_v245 : Ref sig .tc := ⟨.hbm, 300, rfl⟩
abbrev main_v246 : Ref sig .tc := ⟨.hbm, 301, rfl⟩
abbrev main_v247 : Ref sig .tc := ⟨.hbm, 302, rfl⟩
abbrev main_v248 : Ref sig .tc := ⟨.hbm, 303, rfl⟩
abbrev main_v249 : Ref sig .tc := ⟨.hbm, 304, rfl⟩
abbrev main_v250 : Ref sig .tc := ⟨.hbm, 305, rfl⟩
abbrev main_cst_41 : Ref sig .tc := ⟨.hbm, 306, rfl⟩
abbrev main_v251 : Ref sig .tc := ⟨.hbm, 307, rfl⟩
abbrev main_v252 : Ref sig .tc := ⟨.hbm, 308, rfl⟩
abbrev main_v253 : Ref sig .tc := ⟨.hbm, 309, rfl⟩
abbrev main_v254 : Ref sig .tc := ⟨.hbm, 310, rfl⟩
abbrev main_v255 : Ref sig .tc := ⟨.hbm, 311, rfl⟩
abbrev main_v256 : Ref sig .tc := ⟨.hbm, 312, rfl⟩
abbrev main_v257 : Ref sig .tc := ⟨.hbm, 313, rfl⟩
abbrev main_v258 : Ref sig .tc := ⟨.hbm, 314, rfl⟩
abbrev main_v259 : Ref sig .tc := ⟨.hbm, 315, rfl⟩
abbrev main_cst_42 : Ref sig .tc := ⟨.hbm, 316, rfl⟩
abbrev main_v260 : Ref sig .tc := ⟨.hbm, 317, rfl⟩
abbrev main_v261 : Ref sig .tc := ⟨.hbm, 318, rfl⟩
abbrev main_v262 : Ref sig .tc := ⟨.hbm, 319, rfl⟩
abbrev main_cst_43 : Ref sig .tc := ⟨.hbm, 320, rfl⟩
abbrev main_v263 : Ref sig .tc := ⟨.hbm, 321, rfl⟩
abbrev main_v264 : Ref sig .tc := ⟨.hbm, 322, rfl⟩
abbrev main_v265 : Ref sig .tc := ⟨.hbm, 323, rfl⟩
abbrev main_v266 : Ref sig .tc := ⟨.hbm, 324, rfl⟩
abbrev main_v267 : Ref sig .tc := ⟨.hbm, 325, rfl⟩
abbrev main_c_44 : Ref sig .tc := ⟨.hbm, 326, rfl⟩
abbrev main_call3_v0 : Ref sig .tc := ⟨.hbm, 327, rfl⟩
abbrev main_call3_v1 : Ref sig .tc := ⟨.hbm, 328, rfl⟩
abbrev main_call3_v2 : Ref sig .tc := ⟨.hbm, 329, rfl⟩
abbrev main_v268 : Ref sig .tc := ⟨.hbm, 330, rfl⟩
abbrev main_c_45 : Ref sig .tc := ⟨.hbm, 331, rfl⟩
abbrev main_v269 : Ref sig .tc := ⟨.hbm, 332, rfl⟩
abbrev main_v270 : Ref sig .tc := ⟨.hbm, 333, rfl⟩
abbrev main_c_46 : Ref sig .tc := ⟨.hbm, 334, rfl⟩
abbrev main_c_47 : Ref sig .tc := ⟨.hbm, 335, rfl⟩
abbrev main_call4_v0 : Ref sig .tc := ⟨.hbm, 336, rfl⟩
abbrev main_call4_v1 : Ref sig .tc := ⟨.hbm, 337, rfl⟩
abbrev main_call4_v2 : Ref sig .tc := ⟨.hbm, 338, rfl⟩
abbrev main_call4_v3 : Ref sig .tc := ⟨.hbm, 339, rfl⟩
abbrev main_call4_v4 : Ref sig .tc := ⟨.hbm, 340, rfl⟩
abbrev main_v271 : Ref sig .tc := ⟨.hbm, 341, rfl⟩
abbrev main_v272 : Ref sig .tc := ⟨.hbm, 342, rfl⟩
abbrev main_c_48 : Ref sig .tc := ⟨.hbm, 343, rfl⟩
abbrev main_c_49 : Ref sig .tc := ⟨.hbm, 344, rfl⟩
abbrev main_call5_v0 : Ref sig .tc := ⟨.hbm, 345, rfl⟩
abbrev main_call5_v1 : Ref sig .tc := ⟨.hbm, 346, rfl⟩
abbrev main_call5_v2 : Ref sig .tc := ⟨.hbm, 347, rfl⟩
abbrev main_call5_v3 : Ref sig .tc := ⟨.hbm, 348, rfl⟩
abbrev main_call5_v4 : Ref sig .tc := ⟨.hbm, 349, rfl⟩
abbrev main_v273 : Ref sig .tc := ⟨.hbm, 350, rfl⟩
abbrev main_v274 : Ref sig .tc := ⟨.hbm, 351, rfl⟩
abbrev main_v275 : Ref sig .tc := ⟨.hbm, 352, rfl⟩
abbrev main_c_50 : Ref sig .tc := ⟨.hbm, 353, rfl⟩
abbrev main_v276 : Ref sig .tc := ⟨.hbm, 354, rfl⟩
abbrev main_v277 : Ref sig .tc := ⟨.hbm, 355, rfl⟩
abbrev main_c_51 : Ref sig .tc := ⟨.hbm, 356, rfl⟩
abbrev main_v278 : Ref sig .tc := ⟨.hbm, 357, rfl⟩
abbrev main_v279 : Ref sig .tc := ⟨.hbm, 358, rfl⟩
abbrev main_v280 : Ref sig .tc := ⟨.hbm, 359, rfl⟩
abbrev main_v281 : Ref sig .tc := ⟨.hbm, 360, rfl⟩
abbrev main_c_52 : Ref sig .tc := ⟨.hbm, 361, rfl⟩
abbrev main_v282 : Ref sig .tc := ⟨.hbm, 362, rfl⟩
abbrev main_v283 : Ref sig .tc := ⟨.hbm, 363, rfl⟩
abbrev main_v284 : Ref sig .tc := ⟨.hbm, 364, rfl⟩
abbrev main_v285 : Ref sig .tc := ⟨.hbm, 365, rfl⟩
abbrev main_c_53 : Ref sig .tc := ⟨.hbm, 366, rfl⟩
abbrev main_call6_v0 : Ref sig .tc := ⟨.hbm, 367, rfl⟩
abbrev main_call6_v1 : Ref sig .tc := ⟨.hbm, 368, rfl⟩
abbrev main_v286 : Ref sig .tc := ⟨.hbm, 369, rfl⟩
abbrev main_v287 : Ref sig .tc := ⟨.hbm, 370, rfl⟩
abbrev main_c_54 : Ref sig .tc := ⟨.hbm, 371, rfl⟩
abbrev main_v288 : Ref sig .tc := ⟨.hbm, 372, rfl⟩
abbrev main_v289 : Ref sig .tc := ⟨.hbm, 373, rfl⟩
abbrev main_c_55 : Ref sig .tc := ⟨.hbm, 374, rfl⟩
abbrev main_v290 : Ref sig .tc := ⟨.hbm, 375, rfl⟩
abbrev main_v291 : Ref sig .tc := ⟨.hbm, 376, rfl⟩
abbrev main_v292 : Ref sig .tc := ⟨.hbm, 377, rfl⟩
abbrev main_c_56 : Ref sig .tc := ⟨.hbm, 378, rfl⟩
abbrev main_v293 : Ref sig .tc := ⟨.hbm, 379, rfl⟩
abbrev main_v294 : Ref sig .tc := ⟨.hbm, 380, rfl⟩
abbrev main_v295 : Ref sig .tc := ⟨.hbm, 381, rfl⟩
abbrev main_v296 : Ref sig .tc := ⟨.hbm, 382, rfl⟩
abbrev main_v297 : Ref sig .tc := ⟨.hbm, 383, rfl⟩
abbrev main_v298 : Ref sig .tc := ⟨.hbm, 384, rfl⟩
abbrev main_c_57 : Ref sig .tc := ⟨.hbm, 385, rfl⟩
abbrev main_v299 : Ref sig .tc := ⟨.hbm, 386, rfl⟩
abbrev main_v300 : Ref sig .tc := ⟨.hbm, 387, rfl⟩
abbrev main_c_58 : Ref sig .tc := ⟨.hbm, 388, rfl⟩
abbrev main_v301 : Ref sig .tc := ⟨.hbm, 389, rfl⟩
abbrev main_v302 : Ref sig .tc := ⟨.hbm, 390, rfl⟩
abbrev main_v303 : Ref sig .tc := ⟨.hbm, 391, rfl⟩
abbrev main_c_59 : Ref sig .tc := ⟨.hbm, 392, rfl⟩
abbrev main_v304 : Ref sig .tc := ⟨.hbm, 393, rfl⟩
abbrev main_v305 : Ref sig .tc := ⟨.hbm, 394, rfl⟩
abbrev main_v306 : Ref sig .tc := ⟨.hbm, 395, rfl⟩
abbrev main_v307 : Ref sig .tc := ⟨.hbm, 396, rfl⟩
abbrev main_v308 : Ref sig .tc := ⟨.hbm, 397, rfl⟩
abbrev main_v309 : Ref sig .tc := ⟨.hbm, 398, rfl⟩
abbrev main_v310 : Ref sig .tc := ⟨.hbm, 399, rfl⟩
abbrev main_v311 : Ref sig .tc := ⟨.hbm, 400, rfl⟩
abbrev main_v312 : Ref sig .tc := ⟨.hbm, 401, rfl⟩
abbrev main_v313 : Ref sig .tc := ⟨.hbm, 402, rfl⟩
abbrev main_v314 : Ref sig .tc := ⟨.hbm, 403, rfl⟩
abbrev main_v315 : Ref sig .tc := ⟨.hbm, 404, rfl⟩
abbrev main_cst_60 : Ref sig .tc := ⟨.hbm, 405, rfl⟩
abbrev main_v316 : Ref sig .tc := ⟨.hbm, 406, rfl⟩
abbrev main_v317 : Ref sig .tc := ⟨.hbm, 407, rfl⟩
abbrev main_v318 : Ref sig .tc := ⟨.hbm, 408, rfl⟩
abbrev main_v319 : Ref sig .tc := ⟨.hbm, 409, rfl⟩
abbrev main_v320 : Ref sig .tc := ⟨.hbm, 410, rfl⟩
abbrev main_cst_61 : Ref sig .tc := ⟨.hbm, 411, rfl⟩
abbrev main_v321 : Ref sig .tc := ⟨.hbm, 412, rfl⟩
abbrev main_v322 : Ref sig .tc := ⟨.hbm, 413, rfl⟩
abbrev main_v323 : Ref sig .tc := ⟨.hbm, 414, rfl⟩
abbrev main_v324 : Ref sig .tc := ⟨.hbm, 415, rfl⟩
abbrev main_v325 : Ref sig .tc := ⟨.hbm, 416, rfl⟩
abbrev main_v326 : Ref sig .tc := ⟨.hbm, 417, rfl⟩
abbrev main_c_62 : Ref sig .tc := ⟨.hbm, 418, rfl⟩
abbrev main_v327 : Ref sig .tc := ⟨.hbm, 419, rfl⟩
abbrev main_v328 : Ref sig .tc := ⟨.hbm, 420, rfl⟩
abbrev main_c_63 : Ref sig .tc := ⟨.hbm, 421, rfl⟩
abbrev main_v329 : Ref sig .tc := ⟨.hbm, 422, rfl⟩
abbrev main_v330 : Ref sig .tc := ⟨.hbm, 423, rfl⟩
abbrev main_c_64 : Ref sig .tc := ⟨.hbm, 424, rfl⟩
abbrev main_v331 : Ref sig .tc := ⟨.hbm, 425, rfl⟩
abbrev main_v332 : Ref sig .tc := ⟨.hbm, 426, rfl⟩
abbrev main_v333 : Ref sig .tc := ⟨.hbm, 427, rfl⟩
abbrev main_v334 : Ref sig .tc := ⟨.hbm, 428, rfl⟩
abbrev main_v335 : Ref sig .tc := ⟨.hbm, 429, rfl⟩
abbrev main_v336 : Ref sig .tc := ⟨.hbm, 430, rfl⟩
abbrev main_v337 : Ref sig .tc := ⟨.hbm, 431, rfl⟩
abbrev main_v338 : Ref sig .tc := ⟨.hbm, 432, rfl⟩
abbrev main_v339 : Ref sig .tc := ⟨.hbm, 433, rfl⟩
abbrev main_v340 : Ref sig .tc := ⟨.hbm, 434, rfl⟩
abbrev main_v341 : Ref sig .tc := ⟨.hbm, 435, rfl⟩
abbrev main_v342 : Ref sig .tc := ⟨.hbm, 436, rfl⟩
abbrev main_v343 : Ref sig .tc := ⟨.hbm, 437, rfl⟩
abbrev main_v344 : Ref sig .tc := ⟨.hbm, 438, rfl⟩
abbrev main_v345 : Ref sig .tc := ⟨.hbm, 439, rfl⟩
abbrev main_v346 : Ref sig .tc := ⟨.hbm, 440, rfl⟩
abbrev main_v347 : Ref sig .tc := ⟨.hbm, 441, rfl⟩
abbrev main_v348 : Ref sig .tc := ⟨.hbm, 442, rfl⟩
abbrev main_v349 : Ref sig .tc := ⟨.hbm, 443, rfl⟩
abbrev main_v350 : Ref sig .tc := ⟨.hbm, 444, rfl⟩
abbrev main_v351 : Ref sig .tc := ⟨.hbm, 445, rfl⟩
abbrev main_v352 : Ref sig .tc := ⟨.hbm, 446, rfl⟩
abbrev main_cst_65 : Ref sig .tc := ⟨.hbm, 447, rfl⟩
abbrev main_v353 : Ref sig .tc := ⟨.hbm, 448, rfl⟩
abbrev main_v354 : Ref sig .tc := ⟨.hbm, 449, rfl⟩
abbrev main_v355 : Ref sig .tc := ⟨.hbm, 450, rfl⟩
abbrev main_cst_66 : Ref sig .tc := ⟨.hbm, 451, rfl⟩
abbrev main_v356 : Ref sig .tc := ⟨.hbm, 452, rfl⟩
abbrev main_v357 : Ref sig .tc := ⟨.hbm, 453, rfl⟩
abbrev main_v358 : Ref sig .tc := ⟨.hbm, 454, rfl⟩
abbrev main_v359 : Ref sig .tc := ⟨.hbm, 455, rfl⟩
abbrev main_cst_67 : Ref sig .tc := ⟨.hbm, 456, rfl⟩
abbrev main_v360 : Ref sig .tc := ⟨.hbm, 457, rfl⟩
abbrev main_v361 : Ref sig .tc := ⟨.hbm, 458, rfl⟩
abbrev main_v362 : Ref sig .tc := ⟨.hbm, 459, rfl⟩
abbrev main_cst_68 : Ref sig .tc := ⟨.hbm, 460, rfl⟩
abbrev main_v363 : Ref sig .tc := ⟨.hbm, 461, rfl⟩
abbrev main_v364 : Ref sig .tc := ⟨.hbm, 462, rfl⟩
abbrev main_v365 : Ref sig .tc := ⟨.hbm, 463, rfl⟩
abbrev main_v366 : Ref sig .tc := ⟨.hbm, 464, rfl⟩
abbrev main_cst_69 : Ref sig .tc := ⟨.hbm, 465, rfl⟩
abbrev main_v367 : Ref sig .tc := ⟨.hbm, 466, rfl⟩
abbrev main_v368 : Ref sig .tc := ⟨.hbm, 467, rfl⟩
abbrev main_v369 : Ref sig .tc := ⟨.hbm, 468, rfl⟩
abbrev main_cst_70 : Ref sig .tc := ⟨.hbm, 469, rfl⟩
abbrev main_v370 : Ref sig .tc := ⟨.hbm, 470, rfl⟩
abbrev main_v371 : Ref sig .tc := ⟨.hbm, 471, rfl⟩
abbrev main_v372 : Ref sig .tc := ⟨.hbm, 472, rfl⟩
abbrev main_v373 : Ref sig .tc := ⟨.hbm, 473, rfl⟩
abbrev main_cst_71 : Ref sig .tc := ⟨.hbm, 474, rfl⟩
abbrev main_v374 : Ref sig .tc := ⟨.hbm, 475, rfl⟩
abbrev main_v375 : Ref sig .tc := ⟨.hbm, 476, rfl⟩
abbrev main_v376 : Ref sig .tc := ⟨.hbm, 477, rfl⟩
abbrev main_cst_72 : Ref sig .tc := ⟨.hbm, 478, rfl⟩
abbrev main_v377 : Ref sig .tc := ⟨.hbm, 479, rfl⟩
abbrev main_v378 : Ref sig .tc := ⟨.hbm, 480, rfl⟩
abbrev main_v379 : Ref sig .tc := ⟨.hbm, 481, rfl⟩
abbrev main_v380 : Ref sig .tc := ⟨.hbm, 482, rfl⟩
abbrev main_v381 : Ref sig .tc := ⟨.hbm, 483, rfl⟩
abbrev main_v382 : Ref sig .tc := ⟨.hbm, 484, rfl⟩
abbrev main_v383 : Ref sig .tc := ⟨.hbm, 485, rfl⟩
abbrev main_v384 : Ref sig .tc := ⟨.hbm, 486, rfl⟩
abbrev main_cst_73 : Ref sig .tc := ⟨.hbm, 487, rfl⟩
abbrev main_v385 : Ref sig .tc := ⟨.hbm, 488, rfl⟩
abbrev main_v386 : Ref sig .tc := ⟨.hbm, 489, rfl⟩
abbrev main_v387 : Ref sig .tc := ⟨.hbm, 490, rfl⟩
abbrev main_v388 : Ref sig .tc := ⟨.hbm, 491, rfl⟩
abbrev main_cst_74 : Ref sig .tc := ⟨.hbm, 492, rfl⟩
abbrev main_v389 : Ref sig .tc := ⟨.hbm, 493, rfl⟩
abbrev main_v390 : Ref sig .tc := ⟨.hbm, 494, rfl⟩
abbrev main_v391 : Ref sig .tc := ⟨.hbm, 495, rfl⟩
abbrev main_v392 : Ref sig .tc := ⟨.hbm, 496, rfl⟩
abbrev main_v393 : Ref sig .tc := ⟨.hbm, 497, rfl⟩
abbrev main_v394 : Ref sig .tc := ⟨.hbm, 498, rfl⟩
abbrev main_v395 : Ref sig .tc := ⟨.hbm, 499, rfl⟩
abbrev main_cst_75 : Ref sig .tc := ⟨.hbm, 500, rfl⟩
abbrev main_v396 : Ref sig .tc := ⟨.hbm, 501, rfl⟩
abbrev main_v397 : Ref sig .tc := ⟨.hbm, 502, rfl⟩
abbrev main_v398 : Ref sig .tc := ⟨.hbm, 503, rfl⟩
abbrev main_cst_76 : Ref sig .tc := ⟨.hbm, 504, rfl⟩
abbrev main_v399 : Ref sig .tc := ⟨.hbm, 505, rfl⟩
abbrev main_c_77 : Ref sig .tc := ⟨.hbm, 506, rfl⟩
abbrev main_v400 : Ref sig .tc := ⟨.hbm, 507, rfl⟩
abbrev main_v401 : Ref sig .tc := ⟨.hbm, 508, rfl⟩
abbrev main_c_78 : Ref sig .tc := ⟨.hbm, 509, rfl⟩
abbrev main_v402 : Ref sig .tc := ⟨.hbm, 510, rfl⟩
abbrev main_v403 : Ref sig .tc := ⟨.hbm, 511, rfl⟩
abbrev main_v404 : Ref sig .tc := ⟨.hbm, 512, rfl⟩
abbrev main_v405 : Ref sig .tc := ⟨.hbm, 513, rfl⟩
abbrev main_v406 : Ref sig .tc := ⟨.hbm, 514, rfl⟩
abbrev main_cst_79 : Ref sig .tc := ⟨.hbm, 515, rfl⟩
abbrev main_v407 : Ref sig .tc := ⟨.hbm, 516, rfl⟩
abbrev main_c_80 : Ref sig .tc := ⟨.hbm, 517, rfl⟩
abbrev main_v408 : Ref sig .tc := ⟨.hbm, 518, rfl⟩
abbrev main_v409 : Ref sig .tc := ⟨.hbm, 519, rfl⟩
abbrev main_c_81 : Ref sig .tc := ⟨.hbm, 520, rfl⟩
abbrev main_v410 : Ref sig .tc := ⟨.hbm, 521, rfl⟩
abbrev main_v411 : Ref sig .tc := ⟨.hbm, 522, rfl⟩
abbrev main_v412 : Ref sig .tc := ⟨.hbm, 523, rfl⟩
abbrev main_v413 : Ref sig .tc := ⟨.hbm, 524, rfl⟩
abbrev main_v414 : Ref sig .tc := ⟨.hbm, 525, rfl⟩
abbrev main_cst_82 : Ref sig .tc := ⟨.hbm, 526, rfl⟩
abbrev main_v415 : Ref sig .tc := ⟨.hbm, 527, rfl⟩
abbrev main_c_83 : Ref sig .tc := ⟨.hbm, 528, rfl⟩
abbrev main_v416 : Ref sig .tc := ⟨.hbm, 529, rfl⟩
abbrev main_v417 : Ref sig .tc := ⟨.hbm, 530, rfl⟩
abbrev main_c_84 : Ref sig .tc := ⟨.hbm, 531, rfl⟩
abbrev main_v418 : Ref sig .tc := ⟨.hbm, 532, rfl⟩
abbrev main_v419 : Ref sig .tc := ⟨.hbm, 533, rfl⟩
abbrev main_v420 : Ref sig .tc := ⟨.hbm, 534, rfl⟩
abbrev main_v421 : Ref sig .tc := ⟨.hbm, 535, rfl⟩
abbrev main_v422 : Ref sig .tc := ⟨.hbm, 536, rfl⟩
abbrev main_cst_85 : Ref sig .tc := ⟨.hbm, 537, rfl⟩
abbrev main_v423 : Ref sig .tc := ⟨.hbm, 538, rfl⟩
abbrev main_c_86 : Ref sig .tc := ⟨.hbm, 539, rfl⟩
abbrev main_v424 : Ref sig .tc := ⟨.hbm, 540, rfl⟩
abbrev main_v425 : Ref sig .tc := ⟨.hbm, 541, rfl⟩
abbrev main_c_87 : Ref sig .tc := ⟨.hbm, 542, rfl⟩
abbrev main_v426 : Ref sig .tc := ⟨.hbm, 543, rfl⟩
abbrev main_v427 : Ref sig .tc := ⟨.hbm, 544, rfl⟩
abbrev main_v428 : Ref sig .tc := ⟨.hbm, 545, rfl⟩
abbrev main_v429 : Ref sig .tc := ⟨.hbm, 546, rfl⟩
abbrev main_v430 : Ref sig .tc := ⟨.hbm, 547, rfl⟩
abbrev main_cst_88 : Ref sig .tc := ⟨.hbm, 548, rfl⟩
abbrev main_v431 : Ref sig .tc := ⟨.hbm, 549, rfl⟩
abbrev main_c_89 : Ref sig .tc := ⟨.hbm, 550, rfl⟩
abbrev main_v432 : Ref sig .tc := ⟨.hbm, 551, rfl⟩
abbrev main_v433 : Ref sig .tc := ⟨.hbm, 552, rfl⟩
abbrev main_c_90 : Ref sig .tc := ⟨.hbm, 553, rfl⟩
abbrev main_v434 : Ref sig .tc := ⟨.hbm, 554, rfl⟩
abbrev main_v435 : Ref sig .tc := ⟨.hbm, 555, rfl⟩
abbrev main_v436 : Ref sig .tc := ⟨.hbm, 556, rfl⟩
abbrev main_v437 : Ref sig .tc := ⟨.hbm, 557, rfl⟩
abbrev main_v438 : Ref sig .tc := ⟨.hbm, 558, rfl⟩
abbrev main_cst_91 : Ref sig .tc := ⟨.hbm, 559, rfl⟩
abbrev main_v439 : Ref sig .tc := ⟨.hbm, 560, rfl⟩
abbrev main_c_92 : Ref sig .tc := ⟨.hbm, 561, rfl⟩
abbrev main_v440 : Ref sig .tc := ⟨.hbm, 562, rfl⟩
abbrev main_v441 : Ref sig .tc := ⟨.hbm, 563, rfl⟩
abbrev main_c_93 : Ref sig .tc := ⟨.hbm, 564, rfl⟩
abbrev main_v442 : Ref sig .tc := ⟨.hbm, 565, rfl⟩
abbrev main_v443 : Ref sig .tc := ⟨.hbm, 566, rfl⟩
abbrev main_v444 : Ref sig .tc := ⟨.hbm, 567, rfl⟩
abbrev main_v445 : Ref sig .tc := ⟨.hbm, 568, rfl⟩
abbrev main_cst_94 : Ref sig .tc := ⟨.hbm, 569, rfl⟩
abbrev main_v446 : Ref sig .tc := ⟨.hbm, 570, rfl⟩
abbrev main_v447 : Ref sig .tc := ⟨.hbm, 571, rfl⟩
abbrev main_v448 : Ref sig .tc := ⟨.hbm, 572, rfl⟩
abbrev main_v449 : Ref sig .tc := ⟨.hbm, 573, rfl⟩
abbrev main_c_95 : Ref sig .tc := ⟨.hbm, 574, rfl⟩
abbrev main_call7_v0 : Ref sig .tc := ⟨.hbm, 575, rfl⟩
abbrev main_call7_v1 : Ref sig .tc := ⟨.hbm, 576, rfl⟩
abbrev main_call7_v2 : Ref sig .tc := ⟨.hbm, 577, rfl⟩
abbrev main_call7_v3 : Ref sig .tc := ⟨.hbm, 578, rfl⟩
abbrev main_call7_v4 : Ref sig .tc := ⟨.hbm, 579, rfl⟩
abbrev main_call7_v5 : Ref sig .tc := ⟨.hbm, 580, rfl⟩
abbrev main_call7_v6 : Ref sig .tc := ⟨.hbm, 581, rfl⟩
abbrev main_call7_v7 : Ref sig .tc := ⟨.hbm, 582, rfl⟩
abbrev main_call7_v8 : Ref sig .tc := ⟨.hbm, 583, rfl⟩
abbrev main_call7_c : Ref sig .tc := ⟨.hbm, 584, rfl⟩
abbrev main_call7_v9 : Ref sig .tc := ⟨.hbm, 585, rfl⟩
abbrev main_call7_v10 : Ref sig .tc := ⟨.hbm, 586, rfl⟩
abbrev main_call7_v11 : Ref sig .tc := ⟨.hbm, 587, rfl⟩
abbrev main_call7_c_0 : Ref sig .tc := ⟨.hbm, 588, rfl⟩
abbrev main_call7_v12 : Ref sig .tc := ⟨.hbm, 589, rfl⟩
abbrev main_call7_v13 : Ref sig .tc := ⟨.hbm, 590, rfl⟩
abbrev main_v450 : Ref sig .tc := ⟨.hbm, 591, rfl⟩
abbrev main_c_96 : Ref sig .tc := ⟨.hbm, 592, rfl⟩
abbrev main_v451 : Ref sig .tc := ⟨.hbm, 593, rfl⟩
abbrev main_v452 : Ref sig .tc := ⟨.hbm, 594, rfl⟩
abbrev main_c_97 : Ref sig .tc := ⟨.hbm, 595, rfl⟩
abbrev main_v453 : Ref sig .tc := ⟨.hbm, 596, rfl⟩
abbrev main_v454 : Ref sig .tc := ⟨.hbm, 597, rfl⟩
abbrev main_v455 : Ref sig .tc := ⟨.hbm, 598, rfl⟩
abbrev main_v456 : Ref sig .tc := ⟨.hbm, 599, rfl⟩
abbrev main_c_98 : Ref sig .tc := ⟨.hbm, 600, rfl⟩
abbrev main_v457 : Ref sig .tc := ⟨.hbm, 601, rfl⟩
abbrev main_v458 : Ref sig .tc := ⟨.hbm, 602, rfl⟩
abbrev main_v459 : Ref sig .tc := ⟨.hbm, 603, rfl⟩
abbrev main_v460 : Ref sig .tc := ⟨.hbm, 604, rfl⟩
abbrev main_c_99 : Ref sig .tc := ⟨.hbm, 605, rfl⟩
abbrev main_call8_v0 : Ref sig .tc := ⟨.hbm, 606, rfl⟩
abbrev main_call8_v1 : Ref sig .tc := ⟨.hbm, 607, rfl⟩
abbrev main_v461 : Ref sig .tc := ⟨.hbm, 608, rfl⟩
abbrev main_v462 : Ref sig .tc := ⟨.hbm, 609, rfl⟩
abbrev main_cst_100 : Ref sig .tc := ⟨.hbm, 610, rfl⟩
abbrev main_v463 : Ref sig .tc := ⟨.hbm, 611, rfl⟩
abbrev main_c_101 : Ref sig .tc := ⟨.hbm, 612, rfl⟩
abbrev main_v464 : Ref sig .tc := ⟨.hbm, 613, rfl⟩
abbrev main_v465 : Ref sig .tc := ⟨.hbm, 614, rfl⟩
abbrev main_c_102 : Ref sig .tc := ⟨.hbm, 615, rfl⟩
abbrev main_v466 : Ref sig .tc := ⟨.hbm, 616, rfl⟩
abbrev main_v467 : Ref sig .tc := ⟨.hbm, 617, rfl⟩
abbrev main_v468 : Ref sig .tc := ⟨.hbm, 618, rfl⟩
abbrev main_v469 : Ref sig .tc := ⟨.hbm, 619, rfl⟩
abbrev main_cst_103 : Ref sig .tc := ⟨.hbm, 620, rfl⟩
abbrev main_v470 : Ref sig .tc := ⟨.hbm, 621, rfl⟩
abbrev main_v471 : Ref sig .tc := ⟨.hbm, 622, rfl⟩
abbrev main_c_104 : Ref sig .tc := ⟨.hbm, 623, rfl⟩
abbrev main_v472 : Ref sig .tc := ⟨.hbm, 624, rfl⟩
abbrev main_v473 : Ref sig .tc := ⟨.hbm, 625, rfl⟩
abbrev main_c_105 : Ref sig .tc := ⟨.hbm, 626, rfl⟩
abbrev main_v474 : Ref sig .tc := ⟨.hbm, 627, rfl⟩
abbrev main_v475 : Ref sig .tc := ⟨.hbm, 628, rfl⟩
abbrev main_c_106 : Ref sig .tc := ⟨.hbm, 629, rfl⟩
abbrev main_v476 : Ref sig .tc := ⟨.hbm, 630, rfl⟩
abbrev main_v477 : Ref sig .tc := ⟨.hbm, 631, rfl⟩
abbrev main_v478 : Ref sig .tc := ⟨.hbm, 632, rfl⟩
abbrev main_v479 : Ref sig .tc := ⟨.hbm, 633, rfl⟩
abbrev main_v480 : Ref sig .tc := ⟨.hbm, 634, rfl⟩
abbrev main_v481 : Ref sig .tc := ⟨.hbm, 635, rfl⟩
abbrev main_call9_cst : Ref sig .tc := ⟨.hbm, 636, rfl⟩
abbrev main_call9_v0 : Ref sig .tc := ⟨.hbm, 637, rfl⟩
abbrev main_call9_cst_0 : Ref sig .tc := ⟨.hbm, 638, rfl⟩
abbrev main_call9_v1 : Ref sig .tc := ⟨.hbm, 639, rfl⟩
abbrev main_call9_v2 : Ref sig .tc := ⟨.hbm, 640, rfl⟩
abbrev main_call9_v3 : Ref sig .tc := ⟨.hbm, 641, rfl⟩
abbrev main_call9_v4 : Ref sig .tc := ⟨.hbm, 642, rfl⟩
abbrev main_call9_v5 : Ref sig .tc := ⟨.hbm, 643, rfl⟩
abbrev main_call9_v6 : Ref sig .tc := ⟨.hbm, 644, rfl⟩
abbrev main_call9_cst_1 : Ref sig .tc := ⟨.hbm, 645, rfl⟩
abbrev main_call9_v7 : Ref sig .tc := ⟨.hbm, 646, rfl⟩
abbrev main_call9_v8 : Ref sig .tc := ⟨.hbm, 647, rfl⟩
abbrev main_call9_v9 : Ref sig .tc := ⟨.hbm, 648, rfl⟩
abbrev main_call9_v10 : Ref sig .tc := ⟨.hbm, 649, rfl⟩
abbrev main_v482 : Ref sig .tc := ⟨.hbm, 650, rfl⟩
abbrev main_v483 : Ref sig .tc := ⟨.hbm, 651, rfl⟩
abbrev main_call10_c : Ref sig .tc := ⟨.hbm, 652, rfl⟩
abbrev main_call10_v0 : Ref sig .tc := ⟨.hbm, 653, rfl⟩
abbrev main_call10_v1 : Ref sig .tc := ⟨.hbm, 654, rfl⟩
abbrev main_call10_c_0 : Ref sig .tc := ⟨.hbm, 655, rfl⟩
abbrev main_call10_v2 : Ref sig .tc := ⟨.hbm, 656, rfl⟩
abbrev main_call10_v3 : Ref sig .tc := ⟨.hbm, 657, rfl⟩
abbrev main_call10_v4 : Ref sig .tc := ⟨.hbm, 658, rfl⟩
abbrev main_call10_v5 : Ref sig .tc := ⟨.hbm, 659, rfl⟩
abbrev main_call10_c_1 : Ref sig .tc := ⟨.hbm, 660, rfl⟩
abbrev main_call10_c_2 : Ref sig .tc := ⟨.hbm, 661, rfl⟩
abbrev main_call10_v6 : Ref sig .tc := ⟨.hbm, 662, rfl⟩
abbrev main_call10_v7 : Ref sig .tc := ⟨.hbm, 663, rfl⟩
abbrev main_call10_v8 : Ref sig .tc := ⟨.hbm, 664, rfl⟩
abbrev main_call10_v9 : Ref sig .tc := ⟨.hbm, 665, rfl⟩
abbrev main_call10_v10 : Ref sig .tc := ⟨.hbm, 666, rfl⟩
abbrev main_call10_v11 : Ref sig .tc := ⟨.hbm, 667, rfl⟩
abbrev main_call10_c_3 : Ref sig .tc := ⟨.hbm, 668, rfl⟩
abbrev main_call10_v12 : Ref sig .tc := ⟨.hbm, 669, rfl⟩
abbrev main_call10_v13 : Ref sig .tc := ⟨.hbm, 670, rfl⟩
abbrev main_call10_cst : Ref sig .tc := ⟨.hbm, 671, rfl⟩
abbrev main_call10_v14 : Ref sig .tc := ⟨.hbm, 672, rfl⟩
abbrev main_v484 : Ref sig .tc := ⟨.hbm, 673, rfl⟩
abbrev main_v485 : Ref sig .tc := ⟨.hbm, 674, rfl⟩
abbrev main_v486 : Ref sig .tc := ⟨.hbm, 675, rfl⟩
abbrev main_v487 : Ref sig .tc := ⟨.hbm, 676, rfl⟩
abbrev main_cst_107 : Ref sig .tc := ⟨.hbm, 677, rfl⟩
abbrev main_v488 : Ref sig .tc := ⟨.hbm, 678, rfl⟩
abbrev main_cst_108 : Ref sig .tc := ⟨.hbm, 679, rfl⟩
abbrev main_v489 : Ref sig .tc := ⟨.hbm, 680, rfl⟩
abbrev main_v490 : Ref sig .tc := ⟨.hbm, 681, rfl⟩
abbrev main_v491 : Ref sig .tc := ⟨.hbm, 682, rfl⟩
abbrev main_v492 : Ref sig .tc := ⟨.hbm, 683, rfl⟩
abbrev main_v493 : Ref sig .tc := ⟨.hbm, 684, rfl⟩
abbrev main_v494 : Ref sig .tc := ⟨.hbm, 685, rfl⟩
abbrev main_v495 : Ref sig .tc := ⟨.hbm, 686, rfl⟩
abbrev main_v496 : Ref sig .tc := ⟨.hbm, 687, rfl⟩
abbrev main_v497 : Ref sig .tc := ⟨.hbm, 688, rfl⟩
abbrev main_cst_109 : Ref sig .tc := ⟨.hbm, 689, rfl⟩
abbrev main_v498 : Ref sig .tc := ⟨.hbm, 690, rfl⟩
abbrev main_cst_110 : Ref sig .tc := ⟨.hbm, 691, rfl⟩
abbrev main_v499 : Ref sig .tc := ⟨.hbm, 692, rfl⟩
abbrev main_v500 : Ref sig .tc := ⟨.hbm, 693, rfl⟩
abbrev main_v501 : Ref sig .tc := ⟨.hbm, 694, rfl⟩
abbrev main_v502 : Ref sig .tc := ⟨.hbm, 695, rfl⟩
abbrev main_cst_111 : Ref sig .tc := ⟨.hbm, 696, rfl⟩
abbrev main_v503 : Ref sig .tc := ⟨.hbm, 697, rfl⟩
abbrev main_cst_112 : Ref sig .tc := ⟨.hbm, 698, rfl⟩
abbrev main_v504 : Ref sig .tc := ⟨.hbm, 699, rfl⟩
abbrev main_v505 : Ref sig .tc := ⟨.hbm, 700, rfl⟩
abbrev main_v506 : Ref sig .tc := ⟨.hbm, 701, rfl⟩
abbrev main_v507 : Ref sig .tc := ⟨.hbm, 702, rfl⟩
abbrev main_cst_113 : Ref sig .tc := ⟨.hbm, 703, rfl⟩
abbrev main_v508 : Ref sig .tc := ⟨.hbm, 704, rfl⟩
abbrev main_cst_114 : Ref sig .tc := ⟨.hbm, 705, rfl⟩
abbrev main_v509 : Ref sig .tc := ⟨.hbm, 706, rfl⟩
abbrev main_v510 : Ref sig .tc := ⟨.hbm, 707, rfl⟩
abbrev main_v511 : Ref sig .tc := ⟨.hbm, 708, rfl⟩
abbrev main_v512 : Ref sig .tc := ⟨.hbm, 709, rfl⟩
abbrev main_cst_115 : Ref sig .tc := ⟨.hbm, 710, rfl⟩
abbrev main_v513 : Ref sig .tc := ⟨.hbm, 711, rfl⟩
abbrev main_cst_116 : Ref sig .tc := ⟨.hbm, 712, rfl⟩
abbrev main_v514 : Ref sig .tc := ⟨.hbm, 713, rfl⟩
abbrev main_v515 : Ref sig .tc := ⟨.hbm, 714, rfl⟩
abbrev main_v516 : Ref sig .tc := ⟨.hbm, 715, rfl⟩
abbrev main_v517 : Ref sig .tc := ⟨.hbm, 716, rfl⟩
abbrev main_v518 : Ref sig .tc := ⟨.hbm, 717, rfl⟩
abbrev main_cst_117 : Ref sig .tc := ⟨.hbm, 718, rfl⟩
abbrev main_v519 : Ref sig .tc := ⟨.hbm, 719, rfl⟩
abbrev main_cst_118 : Ref sig .tc := ⟨.hbm, 720, rfl⟩
abbrev main_v520 : Ref sig .tc := ⟨.hbm, 721, rfl⟩
abbrev main_v521 : Ref sig .tc := ⟨.hbm, 722, rfl⟩
abbrev main_v522 : Ref sig .tc := ⟨.hbm, 723, rfl⟩
abbrev main_v523 : Ref sig .tc := ⟨.hbm, 724, rfl⟩
abbrev main_v524 : Ref sig .tc := ⟨.hbm, 725, rfl⟩
abbrev main_v525 : Ref sig .tc := ⟨.hbm, 726, rfl⟩

abbrev nD : Nat := 1
abbrev τ : Topo := Topo.v7x

variable {F : FTy → Type} [FloatOps F]
-- ==== Proof.Block.lean ====
/- What the kernel's body computes at one grid point, as functions of its two blocks: the tables of the forty rows' ten
   boxes, one box against one anchor's cells, the folds over the boxes, the classes of a half block, and the total. -/
module

public import proofs.«01_k».proof.Proof.Gen.KernelIdeal.Skeleton
public import Idealize.ShloMosaic.Lib.Pipeline.FrameBody

@[expose] public section

noncomputable section

namespace Cert.KernelIdeal.Block

open Cert.KernelIdeal Cert.KernelIdeal.Gen Idealize.ShloMosaic

variable {F : FTy → Type} [FloatOps F] [Named F]

/-! ## Constants -/

/-- The words of the anchors' widths. -/
def awW : Fin 5 → BitVec 32 := ![0x3FA93A93#32, 0x404C5604#32, 0x40A1C9B0#32, 0x411789B5#32, 0x4133C84B#32]

/-- The words of the anchors' heights. -/
def ahW : Fin 5 → BitVec 32 := ![0x3FDDA027#32, 0x40804D55#32, 0x4101952D#32, 0x409AE59F#32, 0x41201D15#32]

/-- The anchors' areas, as the table of named constants gives them. -/
def area : Fin 5 → F .f32 :=
  ![Named.named κ "area0" 0x4012816F#32, Named.named κ "area1" 0x414CD177#32, Named.named κ "area2" 0x4223C9D1#32,
    Named.named κ "area3" 0x42376186#32, Named.named κ "area4" 0x42E0E337#32]

/-- The anchors' numbers as words. -/
def numW : Fin 5 → BitVec 32 := ![0#32, 1#32, 2#32, 3#32, 4#32]

/-- A float word at every box. -/
abbrev bx (w : BitVec 32) : FVec F S40x10 .f32 := broadcast S40x10 (Scalar.ofBits .f32 w)

/-- A float word at every cell. -/
abbrev ce (w : BitVec 32) : FVec F S40x676 .f32 := broadcast S40x676 (Scalar.ofBits .f32 w)

/-! ## Folds -/

/-- Five steps, in order. -/
def fold5 {α : Type} (f : Fin 5 → α → α) (x : α) : α := f 4 (f 3 (f 2 (f 1 (f 0 x))))

/-- Ten steps, in order. -/
def fold10 {α : Type} (f : Fin 10 → α → α) (x : α) : α :=
  f 9 (f 8 (f 7 (f 6 (f 5 (f 4 (f 3 (f 2 (f 1 (f 0 x)))))))))

/-! ## The boxes -/

/-- One plane of five lies within the block. -/
theorem inb_plane (f : Fin 5) : ∀ a, (![0, f.val, 0, 0] : Fin 4 → Nat) a + S1x1x40x10.size a ≤ S1x5x40x10.size a := by
  revert f; decide

/-- Plane `f` of the boxes' block. -/
def plane (x : Vec F S1x5x40x10 .f32) (f : Fin 5) : FVec F S40x10 .f32 :=
  shapeCast S40x10 (View.ld (Val := Elt F) x (Rect.unit (s := S1x5x40x10) ![0, f.val, 0, 0] S1x1x40x10.size (inb_plane f)))
    shapeCasts_S1x1x40x10_S40x10

/-- The boxes' centres and sizes, in cells. -/
def gx (x : Vec F S1x5x40x10 .f32) : FVec F S40x10 .f32 := mulf (plane x 1) (bx 0x41D00000#32)
@[inherit_doc gx] def gy (x : Vec F S1x5x40x10 .f32) : FVec F S40x10 .f32 := mulf (plane x 2) (bx 0x41D00000#32)
@[inherit_doc gx] def gw (x : Vec F S1x5x40x10 .f32) : FVec F S40x10 .f32 := mulf (plane x 3) (bx 0x41D00000#32)
@[inherit_doc gx] def gh (x : Vec F S1x5x40x10 .f32) : FVec F S40x10 .f32 := mulf (plane x 4) (bx 0x41D00000#32)

/-- The boxes' labels, kept between 0 and 19. -/
def lab (x : Vec F S1x5x40x10 .f32) : IVec S40x10 32 :=
  minsi (broadcast S40x10 19#32) (maxsi (broadcast S40x10 0#32) (fptosi 32 (mulf (plane x 0) (bx 0x41A00000#32))))

/-- A box is there when its first coordinate is not zero. -/
def valid (x : Vec F S1x5x40x10 .f32) : IVec S40x10 1 := cmpf .one (plane x 1) (bx 0x00000000#32)

/-- The overlap of a box and anchor `a`, both centred at zero, over their union. -/
def aiou (x : Vec F S1x5x40x10 .f32) (a : Fin 5) : FVec F S40x10 .f32 :=
  have inter := mulf (minimumf (gw x) (bx (awW a))) (minimumf (gh x) (bx (ahW a)))
  divf inter (maximumf (subf (addf (mulf (gw x) (gh x)) (broadcast S40x10 (area a))) inter) (bx 0x2EDBE6FF#32))

/-- The running choice of an anchor: the first so far with the greatest overlap, and that overlap. -/
def bestP (x : Vec F S1x5x40x10 .f32) : IVec S40x10 32 × FVec F S40x10 .f32 :=
  fold5 (fun a p => (select (cmpf .ogt (aiou x a) p.2) (broadcast S40x10 (numW a)) p.1, maximumf p.2 (aiou x a)))
    (broadcast S40x10 0#32, bx 0xBF800000#32)

/-- The anchor chosen for each box. -/
def best (x : Vec F S1x5x40x10 .f32) : IVec S40x10 32 := (bestP x).1

/-- The cell's coordinates, each between 0 and 25. -/
def gi (x : Vec F S1x5x40x10 .f32) : IVec S40x10 32 :=
  minsi (broadcast S40x10 25#32) (maxsi (broadcast S40x10 0#32) (fptosi 32 (gx x)))
@[inherit_doc gi] def gj (x : Vec F S1x5x40x10 .f32) : IVec S40x10 32 :=
  minsi (broadcast S40x10 25#32) (maxsi (broadcast S40x10 0#32) (fptosi 32 (gy x)))

/-- The offsets within the cell. -/
def txv (x : Vec F S1x5x40x10 .f32) : FVec F S40x10 .f32 := subf (gx x) (sitofp .f32 (gi x))
@[inherit_doc txv] def tyv (x : Vec F S1x5x40x10 .f32) : FVec F S40x10 .f32 := subf (gy x) (sitofp .f32 (gj x))

/-- The chosen anchor's entry of a table of words. -/
def pick (x : Vec F S1x5x40x10 .f32) (w : Fin 5 → BitVec 32) : FVec F S40x10 .f32 :=
  fold5 (fun a acc => select (cmpi .eq (best x) (broadcast S40x10 (numW a))) (bx (w a)) acc) (bx 0x00000000#32)

/-- The logarithms of the sizes over the chosen anchor's. -/
def twv (x : Vec F S1x5x40x10 .f32) : FVec F S40x10 .f32 := log (divf (maximumf (gw x) (bx 0x322BCC77#32)) (pick x awW))
@[inherit_doc twv] def thv (x : Vec F S1x5x40x10 .f32) : FVec F S40x10 .f32 :=
  log (divf (maximumf (gh x) (bx 0x322BCC77#32)) (pick x ahW))

/-- The number of the box's cell. -/
def spos (x : Vec F S1x5x40x10 .f32) : IVec S40x10 32 := addi (muli (gj x) (broadcast S40x10 26#32)) (gi x)

/-- The boxes' edges; a box that isn't there is a point far away. -/
def gl (x : Vec F S1x5x40x10 .f32) : FVec F S40x10 .f32 :=
  select (valid x) (subf (gx x) (mulf (bx 0x3F000000#32) (gw x))) (bx 0xC9742400#32)
@[inherit_doc gl] def gr (x : Vec F S1x5x40x10 .f32) : FVec F S40x10 .f32 :=
  select (valid x) (addf (gx x) (mulf (bx 0x3F000000#32) (gw x))) (bx 0xC9742400#32)
@[inherit_doc gl] def gt (x : Vec F S1x5x40x10 .f32) : FVec F S40x10 .f32 :=
  select (valid x) (subf (gy x) (mulf (bx 0x3F000000#32) (gh x))) (bx 0xC9742400#32)
@[inherit_doc gl] def gb (x : Vec F S1x5x40x10 .f32) : FVec F S40x10 .f32 :=
  select (valid x) (addf (gy x) (mulf (bx 0x3F000000#32) (gh x))) (bx 0xC9742400#32)

/-- The row's number within its batch. -/
def rowBase : IVec S40x1 32 := k0_pay5 (iota .tc S40x1 32 [0] iota_S40x1_d0_w32) 20#32 0#32

/-- The boxes' codes: row, box and label in one word. -/
def codes (x : Vec F S1x5x40x10 .f32) : IVec S40x10 32 :=
  addi (muli (addi (broadcastTo S40x10 (muli rowBase (broadcast S40x1 10#32)) broadcasts_S40x1_S40x10)
      (broadcastTo S40x10 (addi (iota .tc S1x10 32 [1] iota_S1x10_d1_w32) (broadcast S1x10 1#32)) broadcasts_S1x10_S40x10))
    (broadcast S40x10 32#32)) (lab x)

/-- The box's cell when the box is there and chose anchor `a`, else −1. -/
def sposm (x : Vec F S1x5x40x10 .f32) (a : Fin 5) : IVec S40x10 32 :=
  select (andi (valid x) (cmpi .eq (best x) (broadcast S40x10 (numW a)))) (spos x) (broadcast S40x10 4294967295#32)

/-! ## Box `k` beside the cells -/

/-- A column of ten is a slice. -/
theorem slices_col (k : Fin 10) : S40x10.Slices ![0, k.val] S40x1 := by revert k; decide

/-- Column `k` of a table of boxes. -/
def col {α : Type} (v : S40x10.Idx → α) (k : Fin 10) : S40x1.Idx → α :=
  shapeCast S40x1 (shapeCast S40 (extractStridedSlice S40x1 ![0, k.val] v (slices_col k)) shapeCasts_S40x1_S40) shapeCasts_S40_S40x1

/-- Column `k` beside every cell. -/
def cells {α : Type} (v : S40x10.Idx → α) (k : Fin 10) : S40x676.Idx → α :=
  broadcastTo S40x676 (col v k) broadcasts_S40x1_S40x676

/-- Column `k` beside every cell, through one more reshape. -/
def cells' {α : Type} (v : S40x10.Idx → α) (k : Fin 10) : S40x676.Idx → α :=
  broadcastTo S40x676 (shapeCast S40x1 (col v k) shapeCasts_S40x1_S40x1) broadcasts_S40x1_S40x676

/-! ## One anchor's cells -/

/-- One field of an anchor lies within the block. -/
theorem inb_field (a : Fin 5) (f : Fin 6) :
    ∀ i, (![0, a.val, f.val, 0] : Fin 4 → Nat) i + S40x1x1x676.size i ≤ S40x5x6x676.size i := by
  revert a f; decide

/-- Field `f` of anchor `a`'s cells. -/
def field (o : Vec F S40x5x6x676 .f32) (a : Fin 5) (f : Fin 6) : FVec F S40x676 .f32 :=
  shapeCast S40x676 (View.ld (Val := Elt F) o (Rect.unit (s := S40x5x6x676) ![0, a.val, f.val, 0] S40x1x1x676.size (inb_field a f)))
    shapeCasts_S40x1x1x676_S40x676

/-- The cells' numbers. -/
def cellNo : IVec S1x676 32 := iota .tc S1x676 32 [1] iota_S1x676_d1_w32

/-- The predicted boxes' centres and sizes. -/
def px (o : Vec F S40x5x6x676 .f32) (a : Fin 5) : FVec F S40x676 .f32 :=
  addf (logistic (field o a 0)) (broadcastTo S40x676 k0_pay3 broadcasts_S1x676_S40x676)
@[inherit_doc px] def py (o : Vec F S40x5x6x676 .f32) (a : Fin 5) : FVec F S40x676 .f32 :=
  addf (logistic (field o a 1)) (broadcastTo S40x676 k0_pay4 broadcasts_S1x676_S40x676)
@[inherit_doc px] def pw (o : Vec F S40x5x6x676 .f32) (a : Fin 5) : FVec F S40x676 .f32 := mulf (exp (field o a 2)) (ce (awW a))
@[inherit_doc px] def ph (o : Vec F S40x5x6x676 .f32) (a : Fin 5) : FVec F S40x676 .f32 := mulf (exp (field o a 3)) (ce (ahW a))

/-- The predicted boxes' edges. -/
def pl (o : Vec F S40x5x6x676 .f32) (a : Fin 5) : FVec F S40x676 .f32 := subf (px o a) (mulf (ce 0x3F000000#32) (pw o a))
@[inherit_doc pl] def pr (o : Vec F S40x5x6x676 .f32) (a : Fin 5) : FVec F S40x676 .f32 := addf (px o a) (mulf (ce 0x3F000000#32) (pw o a))
@[inherit_doc pl] def pt (o : Vec F S40x5x6x676 .f32) (a : Fin 5) : FVec F S40x676 .f32 := subf (py o a) (mulf (ce 0x3F000000#32) (ph o a))
@[inherit_doc pl] def pb (o : Vec F S40x5x6x676 .f32) (a : Fin 5) : FVec F S40x676 .f32 := addf (py o a) (mulf (ce 0x3F000000#32) (ph o a))

/-- The overlap of box `k` and each predicted box, over their union. -/
def iou (o : Vec F S40x5x6x676 .f32) (x : Vec F S1x5x40x10 .f32) (a : Fin 5) (k : Fin 10) : FVec F S40x676 .f32 :=
  have cw := maximumf (subf (minimumf (pr o a) (cells (gr x) k)) (maximumf (pl o a) (cells (gl x) k))) (ce 0x00000000#32)
  have ch := maximumf (subf (minimumf (pb o a) (cells (gb x) k)) (maximumf (pt o a) (cells (gt x) k))) (ce 0x00000000#32)
  have inter := mulf cw ch
  divf inter (maximumf (subf (addf (mulf (pw o a) (ph o a)) (cells (mulf (gw x) (gh x)) k)) inter) (ce 0x2EDBE6FF#32))

/-- Whether box `k` belongs to the cell. -/
def hit (x : Vec F S1x5x40x10 .f32) (a : Fin 5) (k : Fin 10) : IVec S40x676 1 :=
  cmpi .eq (cells (sposm x a) k) (broadcastTo S40x676 cellNo broadcasts_S1x676_S40x676)

/-- The last box of the cell decides the cell's target. -/
def target (x : Vec F S1x5x40x10 .f32) (a : Fin 5) (v : FVec F S40x10 .f32) (w : BitVec 32) : FVec F S40x676 .f32 :=
  fold10 (fun k acc => select (hit x a k) (cells' v k) acc) (ce w)

/-- The overlap with the cell's last box. -/
def tconf (o : Vec F S40x5x6x676 .f32) (x : Vec F S1x5x40x10 .f32) (a : Fin 5) : FVec F S40x676 .f32 :=
  fold10 (fun k acc => select (hit x a k) (iou o x a k) acc) (ce 0x00000000#32)

/-- The greatest overlap with a box of the row. -/
def maxIou (o : Vec F S40x5x6x676 .f32) (x : Vec F S1x5x40x10 .f32) (a : Fin 5) : FVec F S40x676 .f32 :=
  fold10 (fun k acc => maximumf acc (iou o x a k)) (ce 0x00000000#32)

/-- The greatest code of a box of the cell, 0 when it has none. -/
def wcode (x : Vec F S1x5x40x10 .f32) (a : Fin 5) : IVec S40x676 32 :=
  fold10 (fun k acc => maxsi acc (select (hit x a k) (cells' (codes x) k) (broadcast S40x676 0#32))) (broadcast S40x676 0#32)

/-- The weight of the confidence: 5 at a cell with a box, 0 where some box overlaps well, else 1. -/
def confMask (o : Vec F S40x5x6x676 .f32) (x : Vec F S1x5x40x10 .f32) (a : Fin 5) : FVec F S40x676 .f32 :=
  select (cmpi .sgt (wcode x a) (broadcast S40x676 0#32)) (ce 0x40A00000#32)
    (select (cmpf .ogt (maxIou o x a) (ce 0x3F19999A#32)) (ce 0x00000000#32) (ce 0x3F800000#32))

/-- One cell's squares. -/
def cellSq (o : Vec F S40x5x6x676 .f32) (x : Vec F S1x5x40x10 .f32) (a : Fin 5) : FVec F S40x676 .f32 :=
  have dx := subf (logistic (field o a 0)) (target x a (txv x) 0x3F000000#32)
  have dy := subf (logistic (field o a 1)) (target x a (tyv x) 0x3F000000#32)
  have dw := subf (field o a 2) (target x a (twv x) 0x00000000#32)
  have dh := subf (field o a 3) (target x a (thv x) 0x00000000#32)
  have dc := mulf (confMask o x a) (subf (logistic (field o a 4)) (tconf o x a))
  addf (addf (addf (addf (mulf dx dx) (mulf dy dy)) (mulf dw dw)) (mulf dh dh)) (mulf dc dc)

/-- The sum of one anchor's squares. -/
def sqSum (o : Vec F S40x5x6x676 .f32) (x : Vec F S1x5x40x10 .f32) (a : Fin 5) : F .f32 :=
  extractAt ![0, 0, 0] (shapeCast S1x1x1 (multiReduction .add [1, 2] S1
    (shapeCast S1x40x676 (cellSq o x a) shapeCasts_S40x676_S1x40x676) 0x00000000#32 reduces_S1x40x676_S1 (.inl rfl) rfl)
      shapeCasts_S1_S1x1x1) inpos_S1x1x1_p0_0_0

/-! ## One half block's classes -/

/-- One picture's rows are a slice of the cells. -/
theorem slices_half (h : Fin 2) : S40x676.Slices ![20 * h.val, 0] S20x676 := by revert h; decide
/-- One picture's rows are a slice of the column. -/
theorem slices_halfRow (h : Fin 2) : S40x1.Slices ![20 * h.val, 0] S20x1 := by revert h; decide

/-- The greatest code over the half's rows. -/
def topCode (x : Vec F S1x5x40x10 .f32) (a : Fin 5) (h : Fin 2) : IVec S676 32 :=
  multiReductionI .maxsi [0] S676 (extractStridedSlice S20x676 ![20 * h.val, 0] (wcode x a) (slices_half h)) 2147483648#32
    reduces_S20x676_S676 rfl

/-- The remainder by 32, as it is computed from a signed remainder. -/
def rem32 (w : IVec S676 32) : IVec S676 32 :=
  let d : BitVec 32 := Scalar.select (Scalar.cmpi .eq 32#32 0#32) 1#32 32#32
  have r := remsi w (broadcast S676 d)
  select (andi (xori (cmpi .slt r (broadcast S676 0#32)) (broadcastTo S676 (broadcast S676 (Scalar.cmpi .slt d 0#32)) broadcasts_S676_S676))
    (cmpi .ne r (broadcast S676 0#32))) (addi r (broadcast S676 d)) r

/-- The half's logits. -/
def logits (o : Vec F S40x5x6x676 .f32) (a : Fin 5) (h : Fin 2) : FVec F S20x676 .f32 :=
  extractStridedSlice S20x676 ![20 * h.val, 0] (field o a 5) (slices_half h)

/-- The logits' greatest. -/
def top (o : Vec F S40x5x6x676 .f32) (a : Fin 5) (h : Fin 2) : FVec F S676 .f32 :=
  multiReduction .maximumf [0] S676 (logits o a h) 0xFF800000#32 reduces_S20x676_S676 (.inl rfl) rfl

/-- The logarithm of the sum of the logits' exponentials. -/
def lse (o : Vec F S40x5x6x676 .f32) (a : Fin 5) (h : Fin 2) : FVec F S676 .f32 :=
  addf (top o a h) (log (multiReduction .add [0] S676
    (exp (subf (logits o a h) (broadcastTo S20x676 (shapeCast S1x676 (top o a h) shapeCasts_S676_S1x676) broadcasts_S1x676_S20x676)))
      0x00000000#32 reduces_S20x676_S676 (.inl rfl) rfl))

/-- The logit of the label in the greatest code. -/
def logitAt (o : Vec F S40x5x6x676 .f32) (x : Vec F S1x5x40x10 .f32) (a : Fin 5) (h : Fin 2) : FVec F S676 .f32 :=
  multiReduction .add [0] S676
    (select (cmpi .eq (broadcastTo S20x676 (extractStridedSlice S20x1 ![20 * h.val, 0] rowBase (slices_halfRow h)) broadcasts_S20x1_S20x676)
      (broadcastTo S20x676 (shapeCast S1x676 (rem32 (topCode x a h)) shapeCasts_S676_S1x676) broadcasts_S1x676_S20x676))
      (logits o a h) (broadcast S20x676 (Scalar.ofBits .f32 0x00000000#32)))
    0x00000000#32 reduces_S20x676_S676 (.inl rfl) rfl

/-- The half's class loss at each cell. -/
def cellCls (o : Vec F S40x5x6x676 .f32) (x : Vec F S1x5x40x10 .f32) (a : Fin 5) (h : Fin 2) : FVec F S676 .f32 :=
  select (cmpi .sgt (topCode x a h) (broadcast S676 0#32)) (subf (lse o a h) (logitAt o x a h))
    (broadcast S676 (Scalar.ofBits .f32 0x00000000#32))

/-- The half's class loss. -/
def clsSum (o : Vec F S40x5x6x676 .f32) (x : Vec F S1x5x40x10 .f32) (a : Fin 5) (h : Fin 2) : F .f32 :=
  extractAt ![0, 0] (shapeCast S1x1 (multiReduction .add [1] S1
    (shapeCast S1x676 (cellCls o x a h) shapeCasts_S676_S1x676) 0x00000000#32 reduces_S1x676_S1 (.inl rfl) rfl)
      shapeCasts_S1_S1x1) inpos_S1x1_p0_0

/-- The block's loss: for each anchor half the squares and the two halves' classes. -/
def total (o : Vec F S40x5x6x676 .f32) (x : Vec F S1x5x40x10 .f32) : F .f32 :=
  fold5 (fun a acc => Scalar.addf (Scalar.addf acc (Scalar.mulf (Scalar.ofBits .f32 0x3F000000#32) (sqSum o x a)))
    (Scalar.addf (Scalar.addf (Scalar.ofBits .f32 0x00000000#32) (clsSum o x a 0)) (clsSum o x a 1)))
    (Scalar.ofBits .f32 0x00000000#32)

/-- The block's contribution to the result block: the loss at its first element, zero elsewhere. -/
def contrib (o : Vec F S40x5x6x676 .f32) (x : Vec F S1x5x40x10 .f32) : FVec F S8x128 .f32 :=
  k0_pay1 (total o x) (iota .tc S8x128 32 [0] iota_S8x128_d0_w32) (iota .tc S8x128 32 [1] iota_S8x128_d1_w32) 0#32

end Cert.KernelIdeal.Block

end
-- ==== Proof.Spec.lean ====
/- The region loss in plain mathematics, over the extended reals: one box, one predicted cell, which box a cell takes,
   and the terms that are summed. -/
module

public import proofs.«01_k».proof.Proof.Block

@[expose] public section

noncomputable section

namespace Region

open Idealize.ShloMosaic Cert.KernelIdeal.Block Classical

/-- A float word's value. -/
abbrev fc (w : BitVec 32) : EReal := Ideal.ofBits .f32 w

/-- The anchors' widths. -/
def aw (a : Fin 5) : EReal := fc (awW a)
/-- The anchors' heights. -/
def ah (a : Fin 5) : EReal := fc (ahW a)

/-! ## One box: label, centre and size -/

/-- A box's five numbers. -/
abbrev Box := Fin 5 → EReal

/-- The box's centre in cells, across. -/
def gx (b : Box) : EReal := b 1 * fc 0x41D00000#32
/-- The box's centre in cells, down. -/
def gy (b : Box) : EReal := b 2 * fc 0x41D00000#32
/-- The box's width in cells. -/
def gw (b : Box) : EReal := b 3 * fc 0x41D00000#32
/-- The box's height in cells. -/
def gh (b : Box) : EReal := b 4 * fc 0x41D00000#32

/-- A box is there when its first coordinate is not zero. -/
def valid (b : Box) : Prop := b 1 ≠ 0

/-- The label, kept between 0 and 19. -/
def lab (b : Box) : BitVec 32 := IntOp.minsi 19#32 (IntOp.maxsi 0#32 (Ideal.fptosi 32 (b 0 * fc 0x41A00000#32)))

/-- The column, kept between 0 and 25. -/
def gi (b : Box) : BitVec 32 := IntOp.minsi 25#32 (IntOp.maxsi 0#32 (Ideal.fptosi 32 (gx b)))
/-- The row, kept between 0 and 25. -/
def gj (b : Box) : BitVec 32 := IntOp.minsi 25#32 (IntOp.maxsi 0#32 (Ideal.fptosi 32 (gy b)))

/-- The box's cell. -/
def cell (b : Box) : ℕ := (gj b).toNat * 26 + (gi b).toNat

/-- The overlap of two boxes over their union, from their edges. -/
def overlap (x y w h x' y' w' h' : EReal) : EReal :=
  let half := fc 0x3F000000#32
  let inter := max (min (x + half * w) (x' + half * w') - max (x - half * w) (x' - half * w')) 0
    * max (min (y + half * h) (y' + half * h') - max (y - half * h) (y' - half * h')) 0
  Ideal.div inter (max (w * h + w' * h' - inter) (fc 0x2EDBE6FF#32))

/-- The overlap of a box and an anchor, both centred at zero, over their union. -/
def aiou (b : Box) (a : Fin 5) : EReal :=
  let inter := min (gw b) (aw a) * min (gh b) (ah a)
  Ideal.div inter (max (gw b * gh b + aw a * ah a - inter) (fc 0x2EDBE6FF#32))

/-- Some anchor is the first with the greatest value. -/
theorem exists_first (f : Fin 5 → EReal) : ∃ b : Fin 5, (∀ a, f a ≤ f b) ∧ ∀ a < b, f a < f b := by
  obtain ⟨c, -, hc⟩ := Finset.exists_max_image Finset.univ f ⟨0, Finset.mem_univ 0⟩
  have hne : (Finset.univ.filter fun a => ∀ a', f a' ≤ f a).Nonempty :=
    ⟨c, by simpa using fun a' => hc a' (Finset.mem_univ a')⟩
  refine ⟨_, (Finset.mem_filter.mp (Finset.min'_mem _ hne)).2, fun a ha => ?_⟩
  have h2 := (Finset.mem_filter.mp (Finset.min'_mem _ hne)).2
  refine lt_of_le_of_ne (h2 a) fun he => absurd (Finset.min'_le (Finset.univ.filter fun a => ∀ a', f a' ≤ f a) a ?_) (not_le.mpr ha)
  exact Finset.mem_filter.mpr ⟨Finset.mem_univ a, fun a' => he ▸ h2 a'⟩

/-- That anchor is unique. -/
theorem first_unique {f : Fin 5 → EReal} {b c : Fin 5} (hb : (∀ a, f a ≤ f b) ∧ ∀ a < b, f a < f b)
    (hc : (∀ a, f a ≤ f c) ∧ ∀ a < c, f a < f c) : b = c := by
  rcases lt_trichotomy b c with h | h | h
  · exact absurd (hb.1 c) (not_le.mpr (hc.2 b h))
  · exact h
  · exact absurd (hc.1 b) (not_le.mpr (hb.2 c h))

/-- The anchor of a box: the first with the greatest overlap. -/
def best (b : Box) : Fin 5 := choose (exists_first (aiou b))

/-- No anchor overlaps a box more than its own, and the ones before it overlap it less. -/
theorem best_spec (b : Box) : (∀ a, aiou b a ≤ aiou b (best b)) ∧ ∀ a < best b, aiou b a < aiou b (best b) :=
  choose_spec (exists_first (aiou b))

/-- What the box asks of its cell. -/
def tx (b : Box) : EReal := gx b - (((gi b).toInt : ℝ) : EReal)
/-- What the box asks of its cell: the centre within the cell, down. -/
def ty (b : Box) : EReal := gy b - (((gj b).toInt : ℝ) : EReal)
/-- What the box asks of its cell: the logarithm of its width over its anchor's. -/
def tw (b : Box) : EReal := Ideal.log (Ideal.div (max (gw b) (fc 0x322BCC77#32)) (aw (best b)))
/-- What the box asks of its cell: the logarithm of its height over its anchor's. -/
def th (b : Box) : EReal := Ideal.log (Ideal.div (max (gh b) (fc 0x322BCC77#32)) (ah (best b)))

/-- The box belongs to anchor `a`'s cell `s`. -/
def Hit (b : Box) (a : Fin 5) (s : Fin 676) : Prop := valid b ∧ best b = a ∧ cell b = s.val

/-! ## One predicted cell -/

/-- A cell's six numbers. -/
abbrev Cell := Fin 6 → EReal

/-- The predicted box's centre, across. -/
def px (o : Cell) (s : Fin 676) : EReal := Ideal.logistic (o 0) + ((((s.val % 26 : ℕ) : ℝ)) : EReal)
/-- The predicted box's centre, down. -/
def py (o : Cell) (s : Fin 676) : EReal := Ideal.logistic (o 1) + ((((s.val / 26 : ℕ) : ℝ)) : EReal)
/-- The predicted box's width. -/
def pw (o : Cell) (a : Fin 5) : EReal := Ideal.exp (o 2) * aw a
/-- The predicted box's height. -/
def ph (o : Cell) (a : Fin 5) : EReal := Ideal.exp (o 3) * ah a

/-- The overlap of the predicted box and box `b`. -/
def iou (o : Cell) (a : Fin 5) (s : Fin 676) (b : Box) : EReal :=
  overlap (px o s) (py o s) (pw o a) (ph o a) (gx b) (gy b) (gw b) (gh b)

/-! ## The last of several -/

/-- The value at the last place where `P` holds, `x` when there is none. -/
def lastOr {α : Type} {N : ℕ} (P : Fin N → Prop) (v : Fin N → α) (x : α) : α :=
  (List.finRange N).foldl (fun acc k => if P k then v k else acc) x

/-! ## A cell's terms -/

/-- A row's ten boxes. -/
abbrev Row := Fin 10 → Box

/-- The target that the cell's last box sets. -/
def target (t : Row) (a : Fin 5) (s : Fin 676) (v : Box → EReal) (x : EReal) : EReal :=
  lastOr (fun k => Hit (t k) a s) (fun k => v (t k)) x

/-- The greatest overlap with a box of the row. -/
def maxIou (t : Row) (o : Cell) (a : Fin 5) (s : Fin 676) : EReal :=
  Finset.univ.sup fun k => if valid (t k) then iou o a s (t k) else 0

/-- The weight of the confidence. -/
def weight (t : Row) (o : Cell) (a : Fin 5) (s : Fin 676) : EReal :=
  if ∃ k, Hit (t k) a s then fc 0x40A00000#32 else if fc 0x3F19999A#32 < maxIou t o a s then 0 else 1

/-- The difference of the centre, across: one half is asked where no box is. -/
def dx (t : Row) (o : Cell) (a : Fin 5) (s : Fin 676) : EReal := Ideal.logistic (o 0) - target t a s tx (fc 0x3F000000#32)
/-- The difference of the centre, down: one half is asked where no box is. -/
def dy (t : Row) (o : Cell) (a : Fin 5) (s : Fin 676) : EReal := Ideal.logistic (o 1) - target t a s ty (fc 0x3F000000#32)
/-- The difference of the width's logarithm. -/
def dw (t : Row) (o : Cell) (a : Fin 5) (s : Fin 676) : EReal := o 2 - target t a s tw 0
/-- The difference of the height's logarithm. -/
def dh (t : Row) (o : Cell) (a : Fin 5) (s : Fin 676) : EReal := o 3 - target t a s th 0
/-- The weighted difference of the confidence and the overlap with the cell's box. -/
def dc (t : Row) (o : Cell) (a : Fin 5) (s : Fin 676) : EReal :=
  weight t o a s * (Ideal.logistic (o 4) - target t a s (iou o a s) 0)

/-- A cell's squares. -/
def sq (t : Row) (o : Cell) (a : Fin 5) (s : Fin 676) : EReal :=
  dx t o a s * dx t o a s + dy t o a s * dy t o a s + dw t o a s * dw t o a s + dh t o a s * dh t o a s + dc t o a s * dc t o a s

/-! ## The classes: twenty rows at a time -/

/-- The label of the last box, over twenty rows in order, that belongs to the cell. -/
def label (t : Fin 20 → Row) (a : Fin 5) (s : Fin 676) : BitVec 32 :=
  lastOr (N := 200) (fun u => Hit (t ⟨u.val / 10, by omega⟩ ⟨u.val % 10, by omega⟩) a s)
    (fun u => lab (t ⟨u.val / 10, by omega⟩ ⟨u.val % 10, by omega⟩)) 0#32

/-- The class loss at a cell that has a box: the logarithm of the sum of exponentials less the label's logit. -/
def cls (t : Fin 20 → Row) (l : Fin 20 → EReal) (a : Fin 5) (s : Fin 676) : EReal :=
  if ∃ r k, Hit (t r k) a s then
    Finset.univ.sup l + Ideal.log (∑ j, Ideal.exp (l j - Finset.univ.sup l))
      - l ⟨(label t a s).toNat % 20, Nat.mod_lt _ (by norm_num)⟩
  else 0

end Region

end
-- ==== Proof.Fold.lean ====
/- Facts on the last of several, and on the greatest of several signed words. -/
module

public import proofs.«01_k».proof.Proof.Spec
public import Idealize.ShloMosaic.PureOps.Reduce

@[expose] public section

noncomputable section

namespace Region

open Idealize.ShloMosaic Classical

variable {α : Type}

/-- The last place is asked first. -/
theorem lastOr_succ {N : ℕ} (P : Fin (N + 1) → Prop) (v : Fin (N + 1) → α) (x : α) :
    lastOr P v x = if P (Fin.last N) then v (Fin.last N) else lastOr (fun k : Fin N => P k.castSucc) (fun k => v k.castSucc) x := by
  simp only [lastOr, List.finRange_succ_last, List.foldl_append, List.foldl_map, List.foldl_cons, List.foldl_nil]

/-- Where nothing holds, the starting value. -/
theorem lastOr_none {N : ℕ} {P : Fin N → Prop} (v : Fin N → α) (x : α) (h : ∀ k, ¬P k) : lastOr P v x = x := by
  induction N with
  | zero => rfl
  | succ N ih => rw [lastOr_succ, if_neg (h _), ih _ fun k => h _]

/-- Where `k` is the last place that holds, its value. -/
theorem lastOr_last {N : ℕ} {P : Fin N → Prop} (v : Fin N → α) (x : α) (k : Fin N) (hk : P k) (h : ∀ j, k < j → ¬P j) :
    lastOr P v x = v k := by
  induction N with
  | zero => exact k.elim0
  | succ N ih =>
    rw [lastOr_succ]
    by_cases hl : P (Fin.last N)
    · rw [if_pos hl]
      by_contra hne
      exact h _ (lt_of_le_of_ne (Fin.le_last k) fun e => hne (by rw [e])) hl
    · have hkl : k ≠ Fin.last N := fun e => hl (e ▸ hk)
      obtain ⟨k', rfl⟩ := Fin.exists_castSucc_eq.mpr hkl
      rw [if_neg hl]
      exact ih (fun j => v j.castSucc) k' hk fun j hj => h _ (Fin.castSucc_lt_castSucc_iff.mpr hj)

/-- Either nothing holds or there is a last place. -/
theorem last_cases {N : ℕ} (P : Fin N → Prop) : (∀ k, ¬P k) ∨ ∃ k, P k ∧ ∀ j, k < j → ¬P j := by
  by_cases h : ∃ k, P k
  · right
    obtain ⟨k, hk⟩ := h
    have hne : (Finset.univ.filter P).Nonempty := ⟨k, by simpa using hk⟩
    refine ⟨_, (Finset.mem_filter.mp (Finset.max'_mem _ hne)).2, fun j hj hP => ?_⟩
    exact absurd (Finset.le_max' (Finset.univ.filter P) j (by simpa using hP)) (not_le.mpr hj)
  · exact .inl (not_exists.mp h)

/-- Two last-of-several agree where the second's places are the image of the first's under an increasing map. -/
theorem lastOr_map {N M : ℕ} {P : Fin N → Prop} {Q : Fin M → Prop} {v : Fin N → α} {w : Fin M → α} (x : α)
    (e : Fin N → Fin M) (he : StrictMono e) (hPQ : ∀ k, P k → Q (e k)) (hQP : ∀ u, Q u → ∃ k, e k = u ∧ P k)
    (hv : ∀ k, P k → w (e k) = v k) : lastOr Q w x = lastOr P v x := by
  rcases last_cases P with h | ⟨k, hk, hl⟩
  · rw [lastOr_none _ _ h, lastOr_none]
    intro u hu
    obtain ⟨k, -, hk⟩ := hQP u hu
    exact h k hk
  · rw [lastOr_last _ _ k hk hl, lastOr_last _ _ (e k) (hPQ k hk), hv k hk]
    intro u hu hQ
    obtain ⟨j, rfl, hj⟩ := hQP u hQ
    exact hl j (he.lt_iff_lt.mp hu) hj

/-- The same places and the same values give the same choice. -/
theorem lastOr_congr {N : ℕ} {P Q : Fin N → Prop} {v w : Fin N → α} (x : α) (hPQ : ∀ k, P k ↔ Q k)
    (hv : ∀ k, P k → v k = w k) : lastOr P v x = lastOr Q w x :=
  (lastOr_map x id strictMono_id (fun k h => (hPQ k).mp h) (fun u h => ⟨u, rfl, (hPQ u).mpr h⟩) (fun k h => (hv k h).symm)).symm

/-- The signed greater of two words, as an integer. -/
theorem toInt_maxsi (v w : BitVec 32) : (IntOp.maxsi v w).toInt = max v.toInt w.toInt := by
  simp only [IntOp.maxsi]
  split <;> simp_all [BitVec.slt, max_def] <;> omega

/-- The greatest of several signed words: a bound that is attained. -/
theorem fold_maxsi {N : ℕ} (f : Fin N → BitVec 32) (x c : BitVec 32) (hx : x.toInt ≤ c.toInt) (hf : ∀ k, (f k).toInt ≤ c.toInt)
    (hc : x = c ∨ ∃ k, f k = c) : (Finset.univ : Finset (Fin N)).fold IntOp.maxsi x f = c := by
  have key : ∀ S : Finset (Fin N), (S.fold IntOp.maxsi x f).toInt ≤ c.toInt
      ∧ ((x = c ∨ ∃ k ∈ S, f k = c) → c.toInt ≤ (S.fold IntOp.maxsi x f).toInt) := by
    intro S
    induction S using Finset.induction with
    | empty =>
      refine ⟨by simpa using hx, ?_⟩
      rintro (rfl | ⟨k, hk, -⟩)
      · simp
      · simp at hk
    | insert k S hk ih =>
      rw [Finset.fold_insert hk, toInt_maxsi]
      refine ⟨max_le (hf k) ih.1, ?_⟩
      rintro (h | ⟨j, hj, h⟩)
      · exact le_max_of_le_right (ih.2 (.inl h))
      · rcases Finset.mem_insert.mp hj with rfl | hj
        · exact le_max_of_le_left (by rw [h])
        · exact le_max_of_le_right (ih.2 (.inr ⟨j, hj, h⟩))
  refine BitVec.eq_of_toInt_eq (le_antisymm (key _).1 ((key _).2 ?_))
  exact hc.imp_right fun ⟨k, h⟩ => ⟨k, Finset.mem_univ k, h⟩

end Region

end
-- ==== Proof.Overlap.lean ====
/- Overlaps of boxes: the reference's spelling through the union of the spans agrees with the direct one at real boxes. -/
module

public import proofs.«01_k».proof.Proof.Spec

@[expose] public section

noncomputable section

namespace Region

open Idealize.ShloMosaic Cert.KernelIdeal.Block Classical

/-- A real number. -/
def IsReal (x : EReal) : Prop := ∃ r : ℝ, x = (r : EReal)

/-- A sum of reals is real. -/
theorem IsReal.add {x y : EReal} (hx : IsReal x) (hy : IsReal y) : IsReal (x + y) := by
  obtain ⟨a, rfl⟩ := hx; obtain ⟨b, rfl⟩ := hy; exact ⟨a + b, by push_cast; rfl⟩
/-- A product of reals is real. -/
theorem IsReal.mul {x y : EReal} (hx : IsReal x) (hy : IsReal y) : IsReal (x * y) := by
  obtain ⟨a, rfl⟩ := hx; obtain ⟨b, rfl⟩ := hy; exact ⟨a * b, by push_cast; rfl⟩
/-- The logistic of a real is real. -/
theorem IsReal.logistic {x : EReal} (hx : IsReal x) : IsReal (Ideal.logistic x) := by
  obtain ⟨a, rfl⟩ := hx; exact ⟨_, Ideal.logistic_coe a⟩
/-- The exponential of a real is real. -/
theorem IsReal.exp {x : EReal} (hx : IsReal x) : IsReal (Ideal.exp x) := by
  obtain ⟨a, rfl⟩ := hx; exact ⟨_, rfl⟩

/-! ## The constants -/

/-- The word of one half. -/
theorem fc_half : fc 0x3F000000#32 = ((1 / 2 : ℝ) : EReal) := by
  simp [fc, Ideal.ofBits, Ideal.ieee, -EReal.coe_mul]; norm_num
/-- The word of two. -/
theorem fc_two : fc 0x40000000#32 = ((2 : ℝ) : EReal) := by
  simp [fc, Ideal.ofBits, Ideal.ieee, -EReal.coe_mul]; norm_num
/-- The word of twenty-six. -/
theorem fc_26 : fc 0x41D00000#32 = ((26 : ℝ) : EReal) := by
  simp [fc, Ideal.ofBits, Ideal.ieee, -EReal.coe_mul]; norm_num
/-- The word of minus one. -/
theorem fc_neg_one : fc 0xBF800000#32 = ((-1 : ℝ) : EReal) := by
  simp [fc, Ideal.ofBits, Ideal.ieee, -EReal.coe_mul]; norm_num
/-- The word of minus a million. -/
theorem fc_far : fc 0xC9742400#32 = ((-1000000 : ℝ) : EReal) := by
  simp [fc, Ideal.ofBits, Ideal.ieee, -EReal.coe_mul]; norm_num
/-- The floor of a union is positive. -/
theorem fc_eps : 0 < fc 0x2EDBE6FF#32 := by
  simp [fc, Ideal.ofBits, Ideal.ieee, -EReal.coe_mul]
/-- The word of minus infinity. -/
theorem fc_negInf : fc 0xFF800000#32 = ⊥ := by
  simp [fc, Ideal.ofBits, Ideal.ieee]

/-- An anchor's width is a positive real. -/
theorem aw_real (a : Fin 5) : ∃ r : ℝ, 0 < r ∧ aw a = (r : EReal) := by
  fin_cases a <;> simp [aw, awW, fc, Ideal.ofBits, Ideal.ieee, -EReal.coe_mul] <;> norm_num
/-- An anchor's height is a positive real. -/
theorem ah_real (a : Fin 5) : ∃ r : ℝ, 0 < r ∧ ah a = (r : EReal) := by
  fin_cases a <;> simp [ah, ahW, fc, Ideal.ofBits, Ideal.ieee, -EReal.coe_mul] <;> norm_num

/-! ## Quotients over a positive floor -/

/-- Nothing over a floored union is nothing. -/
theorem div_zero_floor (u : EReal) : Ideal.div 0 (max u (fc 0x2EDBE6FF#32)) = 0 := by
  have : max u (fc 0x2EDBE6FF#32) ≠ 0 := (lt_of_lt_of_le fc_eps (le_max_right _ _)).ne'
  rw [Ideal.div, if_neg this, zero_mul]

/-- What is not negative stays so over a floored union. -/
theorem div_floor_nonneg {i : EReal} (hi : 0 ≤ i) (u : EReal) : 0 ≤ Ideal.div i (max u (fc 0x2EDBE6FF#32)) := by
  have h := lt_of_lt_of_le fc_eps (le_max_right u (fc 0x2EDBE6FF#32))
  rw [Ideal.div, if_neg h.ne']
  exact EReal.mul_nonneg hi (EReal.inv_nonneg_of_nonneg h.le)

/-- An overlap is not negative. -/
theorem overlap_nonneg (x y w h x' y' w' h' : EReal) : 0 ≤ overlap x y w h x' y' w' h' :=
  div_floor_nonneg (EReal.mul_nonneg (le_max_right _ _) (le_max_right _ _)) _

/-- A cell's overlap with a box is not negative. -/
theorem iou_nonneg (o : Cell) (a : Fin 5) (s : Fin 676) (b : Box) : 0 ≤ iou o a s b := overlap_nonneg ..

/-! ## The two spellings -/

/-- The overlap as the reference spells it: the sum of the sizes less the span of both. -/
def overlapU (x y w h x' y' w' h' : EReal) : EReal :=
  let two := fc 0x40000000#32
  let inter := max (w + w' - (max (x + Ideal.div w two) (x' + Ideal.div w' two)
      - min (x - Ideal.div w two) (x' - Ideal.div w' two))) 0
    * max (h + h' - (max (y + Ideal.div h two) (y' + Ideal.div h' two)
      - min (y - Ideal.div h two) (y' - Ideal.div h' two))) 0
  Ideal.div inter (max (w * h + w' * h' - inter) (fc 0x2EDBE6FF#32))

/-- The greater of two reals, as an extended real. -/
theorem coe_max (a b : ℝ) : max (a : EReal) b = ((max a b : ℝ) : EReal) := (EReal.coe_strictMono.monotone.map_max).symm
/-- The lesser of two reals, as an extended real. -/
theorem coe_min (a b : ℝ) : min (a : EReal) b = ((min a b : ℝ) : EReal) := (EReal.coe_strictMono.monotone.map_min).symm

/-- Half of a real. -/
theorem div_two (a : ℝ) : Ideal.div (a : EReal) (fc 0x40000000#32) = ((a / 2 : ℝ) : EReal) := by
  rw [fc_two, Ideal.div_coe (by norm_num), ← EReal.coe_mul]; congr 1; ring

/-- The length common to two spans, both ways. -/
theorem common {x w x' w' : EReal} (hx : IsReal x) (hw : IsReal w) (hx' : IsReal x') (hw' : IsReal w') :
    w + w' - (max (x + Ideal.div w (fc 0x40000000#32)) (x' + Ideal.div w' (fc 0x40000000#32))
      - min (x - Ideal.div w (fc 0x40000000#32)) (x' - Ideal.div w' (fc 0x40000000#32)))
    = min (x + fc 0x3F000000#32 * w) (x' + fc 0x3F000000#32 * w')
      - max (x - fc 0x3F000000#32 * w) (x' - fc 0x3F000000#32 * w') := by
  obtain ⟨x, rfl⟩ := hx; obtain ⟨w, rfl⟩ := hw; obtain ⟨x', rfl⟩ := hx'; obtain ⟨w', rfl⟩ := hw'
  simp only [div_two, fc_half, ← EReal.coe_mul, ← EReal.coe_add, ← EReal.coe_sub, coe_max, coe_min]
  congr 1
  have h1 := min_add_max (x + w / 2) (x' + w' / 2)
  have h2 := min_add_max (x - w / 2) (x' - w' / 2)
  rw [show 1 / 2 * w = w / 2 by ring, show 1 / 2 * w' = w' / 2 by ring]
  linarith

/-- On real numbers the two spellings of the overlap agree. -/
theorem overlapU_eq {x y w h x' y' w' h' : EReal} (hx : IsReal x) (hy : IsReal y) (hw : IsReal w) (hh : IsReal h)
    (hx' : IsReal x') (hy' : IsReal y') (hw' : IsReal w') (hh' : IsReal h') :
    overlapU x y w h x' y' w' h' = overlap x y w h x' y' w' h' := by
  simp only [overlapU, overlap, common hx hw hx' hw', common hy hh hy' hh']

/-- The overlap is symmetric. -/
theorem overlap_comm (x y w h x' y' w' h' : EReal) : overlap x y w h x' y' w' h' = overlap x' y' w' h' x y w h := by
  simp only [overlap, min_comm, max_comm (x - _), max_comm (y - _), add_comm (w * h)]

/-! ## The boxes -/

/-- A box of real numbers. -/
def RealBox (b : Box) : Prop := ∀ f, IsReal (b f)
/-- A cell of real numbers. -/
def RealCell (o : Cell) : Prop := ∀ f, IsReal (o f)
/-- A box whose sizes are not negative. -/
def Sized (b : Box) : Prop := 0 ≤ b 3 ∧ 0 ≤ b 4

/-- Twenty-six is real. -/
theorem isReal_26 : IsReal (fc 0x41D00000#32) := ⟨_, fc_26⟩
/-- A real box's centre is real, across. -/
theorem gx_real {b : Box} (hb : RealBox b) : IsReal (gx b) := (hb 1).mul isReal_26
/-- A real box's centre is real, down. -/
theorem gy_real {b : Box} (hb : RealBox b) : IsReal (gy b) := (hb 2).mul isReal_26
/-- A real box's width is real. -/
theorem gw_real {b : Box} (hb : RealBox b) : IsReal (gw b) := (hb 3).mul isReal_26
/-- A real box's height is real. -/
theorem gh_real {b : Box} (hb : RealBox b) : IsReal (gh b) := (hb 4).mul isReal_26
/-- Twenty-six is not negative. -/
theorem zero_le_26 : 0 ≤ fc 0x41D00000#32 := by rw [fc_26]; exact_mod_cast (by norm_num : (0 : ℝ) ≤ 26)
/-- The scaled width is not negative. -/
theorem gw_nonneg {b : Box} (hb : Sized b) : 0 ≤ gw b := EReal.mul_nonneg hb.1 zero_le_26
/-- The scaled height is not negative. -/
theorem gh_nonneg {b : Box} (hb : Sized b) : 0 ≤ gh b := EReal.mul_nonneg hb.2 zero_le_26

/-- A natural number is real. -/
theorem isReal_nat (n : ℕ) : IsReal (((n : ℝ)) : EReal) := ⟨n, rfl⟩
/-- A real cell's predicted centre is real, across. -/
theorem px_real {o : Cell} (ho : RealCell o) (s : Fin 676) : IsReal (px o s) := (ho 0).logistic.add (isReal_nat _)
/-- A real cell's predicted centre is real, down. -/
theorem py_real {o : Cell} (ho : RealCell o) (s : Fin 676) : IsReal (py o s) := (ho 1).logistic.add (isReal_nat _)
/-- An anchor's width is real. -/
theorem aw_isReal (a : Fin 5) : IsReal (aw a) := (aw_real a).imp fun _ h => h.2
/-- An anchor's height is real. -/
theorem ah_isReal (a : Fin 5) : IsReal (ah a) := (ah_real a).imp fun _ h => h.2
/-- A real cell's predicted width is real. -/
theorem pw_real {o : Cell} (ho : RealCell o) (a : Fin 5) : IsReal (pw o a) := (ho 2).exp.mul (aw_isReal a)
/-- A real cell's predicted height is real. -/
theorem ph_real {o : Cell} (ho : RealCell o) (a : Fin 5) : IsReal (ph o a) := (ho 3).exp.mul (ah_isReal a)

/-- The predicted box against box `b`, in the reference's spelling. -/
theorem iouU_eq {o : Cell} (ho : RealCell o) (a : Fin 5) (s : Fin 676) {b : Box} (hb : RealBox b) :
    overlapU (px o s) (py o s) (pw o a) (ph o a) (gx b) (gy b) (gw b) (gh b) = iou o a s b :=
  overlapU_eq (px_real ho s) (py_real ho s) (pw_real ho a) (ph_real ho a) (gx_real hb) (gy_real hb) (gw_real hb) (gh_real hb)

/-- Box `b` against the predicted box, in the reference's spelling. -/
theorem iouU_swap {o : Cell} (ho : RealCell o) (a : Fin 5) (s : Fin 676) {b : Box} (hb : RealBox b) :
    overlapU (gx b) (gy b) (gw b) (gh b) (px o s) (py o s) (pw o a) (ph o a) = iou o a s b := by
  rw [iou, overlap_comm]
  exact overlapU_eq (gx_real hb) (gy_real hb) (gw_real hb) (gh_real hb) (px_real ho s) (py_real ho s) (pw_real ho a) (ph_real ho a)

/-- Two spans centred at zero have the shorter one in common. -/
theorem common_zero {w w' : ℝ} : min ((0 : EReal) + fc 0x3F000000#32 * w) (0 + fc 0x3F000000#32 * w')
      - max (0 - fc 0x3F000000#32 * w) (0 - fc 0x3F000000#32 * w') = min (w' : EReal) w := by
  simp only [← EReal.coe_zero, fc_half, ← EReal.coe_mul, ← EReal.coe_add, ← EReal.coe_sub, coe_max, coe_min]
  congr 1
  rcases le_total w w' with h | h
  · rw [min_eq_left (by linarith), max_eq_left (by linarith), min_eq_right h]; ring
  · rw [min_eq_right (by linarith), max_eq_right (by linarith), min_eq_left h]; ring

/-- An anchor against a box, both centred at zero, in the reference's spelling. -/
theorem aiouU_eq {b : Box} (hb : RealBox b) (hs : Sized b) (a : Fin 5) :
    overlapU 0 0 (aw a) (ah a) 0 0 (gw b) (gh b) = aiou b a := by
  have h0 : IsReal (0 : EReal) := ⟨0, rfl⟩
  rw [overlapU_eq h0 h0 (aw_isReal a) (ah_isReal a) h0 h0 (gw_real hb) (gh_real hb)]
  obtain ⟨p, hp, ep⟩ := aw_real a
  obtain ⟨q, hq, eq⟩ := ah_real a
  have hw := gw_nonneg hs
  have hh := gh_nonneg hs
  obtain ⟨u, eu⟩ := gw_real hb
  obtain ⟨v, ev⟩ := gh_real hb
  have hp' : (0 : EReal) ≤ p := by exact_mod_cast hp.le
  have hq' : (0 : EReal) ≤ q := by exact_mod_cast hq.le
  simp only [overlap, aiou, ep, eq, eu, ev] at hw hh ⊢
  rw [common_zero, common_zero, max_eq_left (le_min hw hp'), max_eq_left (le_min hh hq'), add_comm ((p : EReal) * q)]

/-- A box's overlap with an anchor is not negative. -/
theorem aiou_nonneg {b : Box} (hs : Sized b) (a : Fin 5) : 0 ≤ aiou b a := by
  obtain ⟨p, hp, ep⟩ := aw_real a
  obtain ⟨q, hq, eq⟩ := ah_real a
  refine div_floor_nonneg (EReal.mul_nonneg (le_min (gw_nonneg hs) ?_) (le_min (gh_nonneg hs) ?_)) _
  · rw [ep]; exact_mod_cast hp.le
  · rw [eq]; exact_mod_cast hq.le

end Region

end
-- ==== Proof.BoxValue.lean ====
/- The kernel's tables of boxes at a row and a box: the plain functions of that box's five numbers. -/
module

public import proofs.«01_k».proof.Proof.Fold
public import proofs.«01_k».proof.Proof.Overlap
public import Idealize.ShloMosaic.Lib.Pointwise
public import Idealize.ShloMosaic.Lib.WordCmp

@[expose] public section

set_option maxRecDepth 16384

noncomputable section

namespace Region

/-- A cell's coordinate is at most 25. -/
theorem clip_le (n : ℕ) (hn : n < 2 ^ 31) (v : BitVec 32) :
    (Idealize.ShloMosaic.IntOp.minsi (BitVec.ofNat 32 n) (Idealize.ShloMosaic.IntOp.maxsi 0#32 v)).toNat ≤ n := by
  have hn' : (BitVec.ofNat 32 n).toInt = n := by
    rw [BitVec.toInt_eq_toNat_cond, BitVec.toNat_ofNat]; split <;> omega
  simp only [Idealize.ShloMosaic.IntOp.minsi, Idealize.ShloMosaic.IntOp.maxsi]
  split_ifs with h1 h2 h2
  · simp [Nat.mod_eq_of_lt (show n < 4294967296 by omega)]
  · simp [Nat.mod_eq_of_lt (show n < 4294967296 by omega)]
  all_goals
    simp only [BitVec.slt, decide_eq_true_eq, BitVec.toInt_eq_toNat_cond, BitVec.toNat_ofNat] at h1 h2 ⊢
    split_ifs at h1 h2 <;> simp at * <;> omega

/-- A column is at most 25. -/
theorem gi_le (b : Box) : (gi b).toNat ≤ 25 := clip_le 25 (by norm_num) _
/-- A row of the grid is at most 25. -/
theorem gj_le (b : Box) : (gj b).toNat ≤ 25 := clip_le 25 (by norm_num) _
/-- A label is at most 19. -/
theorem lab_le (b : Box) : (lab b).toNat ≤ 19 := clip_le 19 (by norm_num) _
/-- A box's cell is one of the 676. -/
theorem cell_lt (b : Box) : cell b < 676 := by
  have := gi_le b; have := gj_le b; unfold cell; omega

end Region

namespace Cert.KernelIdeal.Block

open Cert.KernelIdeal Cert.KernelIdeal.Gen Idealize.ShloMosaic Classical

/-- One number of every box of a block. -/
theorem plane_apply (x : Vec Ideal S1x5x40x10 .f32) (f : Fin 5) (r : Fin 40) (k : Fin 10) : plane x f (ix2 r k) = x (ix4 0 f r k) := by
  fin_cases f <;> pointwise [plane, View.ld]

/-- Row `r`'s boxes in a block. -/
def rowOf (x : Vec Ideal S1x5x40x10 .f32) (r : Fin 40) : Region.Row := fun k f => x (ix4 0 f r k)

variable (x : Vec Ideal S1x5x40x10 .f32) (r : Fin 40) (k : Fin 10) (a : Fin 5)

/-- The kernel's centre of a box, across. -/
theorem gx_apply : gx x (ix2 r k) = Region.gx (rowOf x r k) := by
  pointwise [gx, plane_apply]; rfl
/-- The kernel's centre of a box, down. -/
theorem gy_apply : gy x (ix2 r k) = Region.gy (rowOf x r k) := by
  pointwise [gy, plane_apply]; rfl
/-- The kernel's width of a box. -/
theorem gw_apply : gw x (ix2 r k) = Region.gw (rowOf x r k) := by
  pointwise [gw, plane_apply]; rfl
/-- The kernel's height of a box. -/
theorem gh_apply : gh x (ix2 r k) = Region.gh (rowOf x r k) := by
  pointwise [gh, plane_apply]; rfl
/-- The kernel's label of a box. -/
theorem lab_apply : lab x (ix2 r k) = Region.lab (rowOf x r k) := by
  pointwise [lab, plane_apply]; rfl
/-- The kernel's column of a box. -/
theorem gi_apply : gi x (ix2 r k) = Region.gi (rowOf x r k) := by
  pointwise [gi, gx_apply]; rfl
/-- The kernel's row of a box. -/
theorem gj_apply : gj x (ix2 r k) = Region.gj (rowOf x r k) := by
  pointwise [gj, gy_apply]; rfl
/-- What a box asks of the centre, across. -/
theorem txv_apply : txv x (ix2 r k) = Region.tx (rowOf x r k) := by
  pointwise [txv, gx_apply, gi_apply]; rfl
/-- What a box asks of the centre, down. -/
theorem tyv_apply : tyv x (ix2 r k) = Region.ty (rowOf x r k) := by
  pointwise [tyv, gy_apply, gj_apply]; rfl
/-- Whether a box is there. -/
theorem valid_apply : valid x (ix2 r k) = BitVec.ofBool (decide (Region.valid (rowOf x r k))) := by
  pointwise [valid, plane_apply]
  exact congrArg BitVec.ofBool (decide_eq_decide.mpr Iff.rfl)

/-- The named areas are the products of the anchors' sizes. -/
theorem area_eq : (area (F := Ideal) a) = Region.aw a * Region.ah a := by
  fin_cases a <;>
  simp [area, Region.aw, Region.ah, awW, ahW, Region.fc, Ideal.ofBits, Ideal.ieee, Named.named, κ, -EReal.coe_mul] <;>
  rw [← EReal.coe_mul] <;> norm_num

/-- A box's overlap with an anchor. -/
theorem aiou_apply : aiou x a (ix2 r k) = Region.aiou (rowOf x r k) a := by
  pointwise [aiou, gw_apply, gh_apply, area_eq]; rfl

/-- A box's left edge; a box that isn't there lies far off. -/
theorem gl_apply : gl x (ix2 r k) = if Region.valid (rowOf x r k) then
    Region.gx (rowOf x r k) - Region.fc 0x3F000000#32 * Region.gw (rowOf x r k) else Region.fc 0xC9742400#32 := by
  pointwise [gl, valid_apply, gx_apply, gw_apply]
/-- A box's right edge; a box that isn't there lies far off. -/
theorem gr_apply : gr x (ix2 r k) = if Region.valid (rowOf x r k) then
    Region.gx (rowOf x r k) + Region.fc 0x3F000000#32 * Region.gw (rowOf x r k) else Region.fc 0xC9742400#32 := by
  pointwise [gr, valid_apply, gx_apply, gw_apply]
/-- A box's top edge; a box that isn't there lies far off. -/
theorem gt_apply : gt x (ix2 r k) = if Region.valid (rowOf x r k) then
    Region.gy (rowOf x r k) - Region.fc 0x3F000000#32 * Region.gh (rowOf x r k) else Region.fc 0xC9742400#32 := by
  pointwise [gt, valid_apply, gy_apply, gh_apply]
/-- A box's bottom edge; a box that isn't there lies far off. -/
theorem gb_apply : gb x (ix2 r k) = if Region.valid (rowOf x r k) then
    Region.gy (rowOf x r k) + Region.fc 0x3F000000#32 * Region.gh (rowOf x r k) else Region.fc 0xC9742400#32 := by
  pointwise [gb, valid_apply, gy_apply, gh_apply]

/-- Five steps commute with a reading that each step commutes with. -/
theorem fold5_read {α β : Type} (g : α → β) (f : Fin 5 → α → α) (f' : Fin 5 → β → β) (h : ∀ a p, g (f a p) = f' a (g p)) (p : α) :
    g (fold5 f p) = fold5 f' (g p) := by simp only [fold5, h]

/-- Ten steps commute with a reading that each step commutes with. -/
theorem fold10_read {α β : Type} (g : α → β) (f : Fin 10 → α → α) (f' : Fin 10 → β → β) (h : ∀ a p, g (f a p) = f' a (g p)) (p : α) :
    g (fold10 f p) = fold10 f' (g p) := by simp only [fold10, h]

/-- The running choice, over five numbers. -/
def run5 (f : Fin 5 → EReal) : BitVec 32 × EReal :=
  fold5 (fun a p => (if p.2 < f a then numW a else p.1, max p.2 (f a))) (0#32, Region.fc 0xBF800000#32)

/-- `c` is the first with the greatest value among the anchors up to `j`, and the running choice holds it. -/
def Holds (f : Fin 5 → EReal) (j c : Fin 5) (p : BitVec 32 × EReal) : Prop :=
  c ≤ j ∧ (∀ a ≤ j, f a ≤ f c) ∧ (∀ a < c, f a < f c) ∧ p = (numW c, f c)

/-- One more anchor compared: the pair still holds the first greatest and its value. -/
theorem holds_step (f : Fin 5 → EReal) (i j : Fin 5) (hij : j.val = i.val + 1) (p : BitVec 32 × EReal) (h : ∃ c, Holds f i c p) :
    ∃ c, Holds f j c (if p.2 < f j then numW j else p.1, max p.2 (f j)) := by
  obtain ⟨c, hc, hm, hl, rfl⟩ := h
  have below : ∀ a, a ≤ j → a ≤ i ∨ a = j := fun a ha => by
    rcases Nat.lt_or_ge a.val j.val with h | h
    · left; show a.val ≤ i.val; omega
    · right; exact Fin.ext (le_antisymm ha h)
  by_cases h : f c < f j
  · refine ⟨j, le_refl j, fun a ha => ?_, fun a ha => ?_, ?_⟩
    · rcases below a ha with h' | rfl
      · exact (hm a h').trans h.le
      · exact le_refl _
    · rcases below a ha.le with h' | rfl
      · exact (hm a h').trans_lt h
      · exact absurd ha (lt_irrefl _)
    · simp only [if_pos h, max_eq_right h.le]
  · refine ⟨c, ?_, fun a ha => ?_, hl, ?_⟩
    · exact hc.trans (show i.val ≤ j.val by omega)
    · rcases below a ha with h' | rfl
      · exact hm a h'
      · exact not_lt.mp h
    · simp only [if_neg h, max_eq_left (not_lt.mp h)]

/-- From −1 the running choice ends at the first anchor with the greatest value. -/
theorem run5_eq (f : Fin 5 → EReal) (h0 : ∀ a, 0 ≤ f a) : ∃ c, (∀ a, f a ≤ f c) ∧ (∀ a < c, f a < f c) ∧ (run5 f).1 = numW c := by
  have hm : Region.fc 0xBF800000#32 < f 0 := by
    rw [Region.fc_neg_one]
    exact lt_of_lt_of_le (by exact_mod_cast (by norm_num : (-1 : ℝ) < 0)) (h0 0)
  have s0 : ∃ c, Holds f 0 c (if Region.fc 0xBF800000#32 < f 0 then numW 0 else 0#32, max (Region.fc 0xBF800000#32) (f 0)) :=
    ⟨0, le_refl _, fun a ha => by rw [Fin.le_zero_iff.mp ha], fun a ha => absurd ha (Fin.not_lt_zero a),
      by rw [if_pos hm, max_eq_right hm.le]⟩
  obtain ⟨c, -, hc, hl, hp⟩ := holds_step f 3 4 rfl _ (holds_step f 2 3 rfl _ (holds_step f 1 2 rfl _ (holds_step f 0 1 rfl _ s0)))
  exact ⟨c, fun a => hc a (Fin.le_last a), hl, congrArg Prod.fst hp⟩

/-- The kernel's anchor of a box. -/
theorem best_apply (hs : Region.Sized (rowOf x r k)) : best x (ix2 r k) = numW (Region.best (rowOf x r k)) := by
  have h : ((bestP x).1 (ix2 r k), (bestP x).2 (ix2 r k)) = run5 (Region.aiou (rowOf x r k)) := by
    refine fold5_read (fun p : IVec S40x10 32 × FVec Ideal S40x10 .f32 => (p.1 (ix2 r k), p.2 (ix2 r k))) _ _ (fun a p => ?_) _
    refine Prod.ext ?_ ?_
    · pointwise [aiou_apply]
    · pointwise [aiou_apply]
  obtain ⟨c, hc, hl, e⟩ := run5_eq _ (Region.aiou_nonneg hs)
  rw [Region.first_unique (Region.best_spec _) ⟨hc, hl⟩, ← e, ← h]; rfl

/-- Anchors' numbers differ. -/
theorem numW_inj (c d : Fin 5) : numW c = numW d ↔ c = d := by revert c d; decide

/-- The entry of a table of five at a box's anchor. -/
theorem pick_apply (hs : Region.Sized (rowOf x r k)) (w : Fin 5 → BitVec 32) :
    pick (F := Ideal) x w (ix2 r k) = Region.fc (w (Region.best (rowOf x r k))) := by
  pointwise [pick, fold5, best_apply x r k hs]
  generalize Region.best (rowOf x r k) = c
  fin_cases c <;> rfl

/-- What a box asks of the width. -/
theorem twv_apply (hs : Region.Sized (rowOf x r k)) : twv x (ix2 r k) = Region.tw (rowOf x r k) := by
  pointwise [twv, gw_apply, pick_apply x r k hs]; rfl
/-- What a box asks of the height. -/
theorem thv_apply (hs : Region.Sized (rowOf x r k)) : thv x (ix2 r k) = Region.th (rowOf x r k) := by
  pointwise [thv, gh_apply, pick_apply x r k hs]; rfl

/-- The word of the box's cell. -/
theorem spos_apply : spos x (ix2 r k) = BitVec.ofNat 32 (Region.cell (rowOf x r k)) := by
  pointwise [spos, gi_apply, gj_apply]
  have h1 := Region.gi_le (rowOf x r k)
  have h2 := Region.gj_le (rowOf x r k)
  apply BitVec.eq_of_toNat_eq
  simp only [IntOp.addi, IntOp.muli, BitVec.toNat_add, BitVec.toNat_mul, BitVec.toNat_ofNat, Region.cell]
  omega

/-- A box's cell if it is the anchor's, minus one otherwise. -/
theorem sposm_apply (hs : Region.Sized (rowOf x r k)) : sposm x a (ix2 r k) =
    if Region.valid (rowOf x r k) ∧ Region.best (rowOf x r k) = a then BitVec.ofNat 32 (Region.cell (rowOf x r k)) else 4294967295#32 := by
  pointwise [sposm, valid_apply, best_apply x r k hs, spos_apply]
  have e : IntOp.cmpi .eq (numW (Region.best (rowOf x r k))) (numW a) = BitVec.ofBool (decide (Region.best (rowOf x r k) = a)) :=
    congrArg BitVec.ofBool (by rw [Bool.eq_iff_iff, beq_iff_eq, decide_eq_true_eq, numW_inj])
  rw [e]
  by_cases h1 : Region.valid (rowOf x r k) <;> by_cases h2 : Region.best (rowOf x r k) = a <;>
    simp [h1, h2, IntOp.andi, Scalar.select]

end Cert.KernelIdeal.Block

end
-- ==== Proof.CellValue.lean ====
/- The kernel's tables of cells at a row and a cell: the plain functions of the cell's six numbers and the row's boxes. -/
module

public import proofs.«01_k».proof.Proof.BoxValue
public import Idealize.ShloMosaic.Lib.Routing.Words

@[expose] public section

set_option maxRecDepth 16384

noncomputable section

namespace Region

open Idealize.ShloMosaic

/-- A remainder corrected for its sign is the plain one of a number that isn't negative. -/
theorem mod_word {n d : ℕ} (hn : n < 2 ^ 31) (h0 : 0 < d) (hd : d < 2 ^ 31) (D : BitVec 32) (hD : D = BitVec.ofNat 32 d) :
    Scalar.select (IntOp.andi (IntOp.xori (IntOp.cmpi .slt (IntOp.remsi ArithUnit.vector (BitVec.ofNat 32 n) D) 0#32) (Scalar.cmpi .slt D 0#32))
      (IntOp.cmpi .ne (IntOp.remsi ArithUnit.vector (BitVec.ofNat 32 n) D) 0#32))
      (IntOp.addi (IntOp.remsi ArithUnit.vector (BitVec.ofNat 32 n) D) D) (IntOp.remsi ArithUnit.vector (BitVec.ofNat 32 n) D)
    = BitVec.ofNat 32 (n % d) := by
  subst hD
  rw [Routing.remsi_word _ hn h0 hd]
  have small : ∀ m, m < 2 ^ 31 → IntOp.cmpi .slt (BitVec.ofNat 32 m) 0#32 = 0#1 := fun m hm => by
    have : ¬(BitVec.ofNat 32 m).toInt < 0 := by
      rw [BitVec.toInt_eq_toNat_cond, BitVec.toNat_ofNat]; split <;> omega
    simp [IntOp.cmpi, BitVec.slt, this]
  rw [small _ (lt_of_le_of_lt (Nat.mod_le n d) hn), Scalar.cmpi, small _ hd]
  simp [IntOp.xori, IntOp.andi, Scalar.select]

/-- A small number's word is not below zero. -/
theorem slt_zero (m : ℕ) (hm : m < 2 ^ 31) : IntOp.cmpi .slt (BitVec.ofNat 32 m) 0#32 = 0#1 := by
  have : ¬(BitVec.ofNat 32 m).toInt < 0 := by
    rw [BitVec.toInt_eq_toNat_cond, BitVec.toNat_ofNat]; split <;> omega
  simp [IntOp.cmpi, BitVec.slt, this]

/-- A small positive number's word is above zero. -/
theorem sgt_zero (m : ℕ) (hm : m < 2 ^ 31) (h0 : 0 < m) : IntOp.cmpi .sgt (BitVec.ofNat 32 m) 0#32 = 1#1 := by
  have : 0 < (BitVec.ofNat 32 m).toInt := by
    rw [BitVec.toInt_eq_toNat_cond, BitVec.toNat_ofNat]; split <;> omega
  simp [IntOp.cmpi, BitVec.slt, this]

/-- A quotient corrected for its sign, where nothing is left over or the signs agree. -/
theorem quot_select {α : Type} (c : BitVec 1) (m : ℕ) (A B : α) (h : m ≠ 0 → c = 0#1) :
    Scalar.select (IntOp.andi c (IntOp.cmpi .ne (BitVec.ofNat 32 m) 0#32)) A B = B := by
  by_cases hm : m = 0
  · subst hm
    have : IntOp.cmpi .ne (BitVec.ofNat 32 0) 0#32 = 0#1 := rfl
    rw [this]; simp [IntOp.andi, Scalar.select]
  · rw [h hm]; simp [IntOp.andi, Scalar.select]

/-- A box far away has nothing in common with any span. -/
theorem far_zero (p q : EReal) : max (min p (fc 0xC9742400#32) - max q (fc 0xC9742400#32)) 0 = 0 := by
  refine max_eq_right ((EReal.sub_le_sub (min_le_right p _) (le_max_right q _)).trans ?_)
  rw [fc_far, ← EReal.coe_sub]; simp

/-- The running greatest value over all places. -/
theorem foldl_max {N : ℕ} (f : Fin N → EReal) (x : EReal) :
    (List.finRange N).foldl (fun acc k => max acc (f k)) x = max x (Finset.univ.sup f) := by
  have h : ∀ (l : List (Fin N)) (x : EReal), l.foldl (fun acc k => max acc (f k)) x = max x (l.toFinset.sup f) := by
    intro l
    induction l with
    | nil => simp
    | cons k l ih => intro x; rw [List.foldl_cons, ih, List.toFinset_cons, Finset.sup_insert, ← max_assoc]
  rw [h, List.toFinset_finRange]

/-- Folding over all places is folding over the list of them. -/
theorem fold_univ {β : Type} {N : ℕ} (op : β → β → β) [hc : Std.Commutative op] [ha : Std.Associative op] (b : β) (f : Fin N → β) :
    (Finset.univ : Finset (Fin N)).fold op b f = (List.finRange N).foldl (fun acc k => op acc (f k)) b := by
  show (Multiset.map f (Finset.univ : Finset (Fin N)).1).fold op b = _
  rw [show (Finset.univ : Finset (Fin N)).1 = ((List.finRange N : List (Fin N)) : Multiset (Fin N)) from rfl, Multiset.map_coe,
    Multiset.coe_fold_l, List.foldl_map]

end Region

namespace Cert.KernelIdeal.Block

open Cert.KernelIdeal Cert.KernelIdeal.Gen Idealize.ShloMosaic Classical

variable (x : Vec Ideal S1x5x40x10 .f32) (r : Fin 40) (k : Fin 10) (a : Fin 5) (o : Vec Ideal S40x5x6x676 .f32) (s : Fin 676)

/-- One field of an anchor, at a row and a cell. -/
theorem field_apply (f : Fin 6) : field o a f (ix2 r s) = o (ix4 r a f s) := by
  fin_cases a <;> fin_cases f <;> pointwise [field, View.ld]

/-- A box's number spread over the cells. -/
theorem cells_apply {α : Type} (v : S40x10.Idx → α) : cells v k (ix2 r s) = v (ix2 r k) := by
  fin_cases k <;> pointwise [cells, col]

/-- A box's number spread over the cells, in the other spelling. -/
theorem cells'_apply {α : Type} (v : S40x10.Idx → α) : cells' v k (ix2 r s) = v (ix2 r k) := by
  fin_cases k <;> pointwise [cells', col]

/-- The cell's six numbers in a block. -/
def cellOf (r : Fin 40) (a : Fin 5) (s : Fin 676) : Region.Cell := fun f => o (ix4 r a f s)

/-- A small number's word as a float is the number. -/
theorem sitofp_nat (n : ℕ) (hn : n < 2 ^ 31) : FloatOps.sitofp (F := Ideal) .f32 (BitVec.ofNat 32 n) = ((n : ℝ) : EReal) := by
  have h : (BitVec.ofNat 32 n).toInt = n := by
    rw [BitVec.toInt_eq_toNat_cond, BitVec.toNat_ofNat]; split <;> omega
  show (((BitVec.ofNat 32 n).toInt : ℝ) : EReal) = _
  rw [h]; norm_cast

/-- The kernel's predicted centre, across. -/
theorem px_apply : px o a (ix2 r s) = Region.px (cellOf o r a s) s := by
  pointwise [px, field_apply, k0_pay3]
  rw [Region.mod_word (n := s.val) (d := 26) (by omega) (by norm_num) (by norm_num) (Scalar.select (Scalar.cmpi .eq 26#32 0#32) 1#32 26#32) rfl, sitofp_nat _ (by omega)]
  rfl

/-- The kernel's predicted centre, down. -/
theorem py_apply : py o a (ix2 r s) = Region.py (cellOf o r a s) s := by
  pointwise [py, field_apply, k0_pay4]
  have hr := Routing.remsi_word ArithUnit.vector (a := s.val) (b := 26) (by omega) (by norm_num) (by norm_num)
  have hd := Routing.divsi_word ArithUnit.vector (a := s.val) (b := 26) (by omega) (by norm_num) (by norm_num)
  rw [hr, hd, Region.quot_select, sitofp_nat _ (by omega)]
  · rfl
  · intro hne
    have hs : IntOp.cmpi .sgt (BitVec.ofNat 32 s.val) 0#32 = 1#1 := Region.sgt_zero _ (by omega) (by omega)
    rw [hs, Region.slt_zero _ (by omega)]
    rfl

/-- The kernel's predicted width. -/
theorem pw_apply : pw o a (ix2 r s) = Region.pw (cellOf o r a s) a := by
  pointwise [pw, field_apply]; rfl
/-- The kernel's predicted height. -/
theorem ph_apply : ph o a (ix2 r s) = Region.ph (cellOf o r a s) a := by
  pointwise [ph, field_apply]; rfl

/-- The overlap with box `k`; with a box that isn't there, zero. -/
theorem iou_apply : iou o x a k (ix2 r s)
    = if Region.valid (rowOf x r k) then Region.iou (cellOf o r a s) a s (rowOf x r k) else 0 := by
  pointwise [iou, cells_apply, pr, pl, pt, pb, px_apply, py_apply, pw_apply, ph_apply, gl_apply, gr_apply, gt_apply, gb_apply,
    gw_apply, gh_apply]
  by_cases hv : Region.valid (rowOf x r k)
  · simp only [if_pos hv]; rfl
  · simp only [if_neg hv, Region.far_zero, zero_mul, Region.div_zero_floor]

/-- The box belongs to the cell. -/
theorem hit_apply (hs : Region.Sized (rowOf x r k)) : hit x a k (ix2 r s) = BitVec.ofBool (decide (Region.Hit (rowOf x r k) a s)) := by
  pointwise [hit, cells_apply, cellNo, sposm_apply x r k a hs]
  have hc := Region.cell_lt (rowOf x r k)
  refine congrArg BitVec.ofBool ?_
  rw [Bool.eq_iff_iff, beq_iff_eq, decide_eq_true_eq, Region.Hit, ← and_assoc]
  have h1 : ∀ n, n < 676 → (BitVec.ofNat 32 n = BitVec.ofNat 32 s.val ↔ n = s.val) := fun n hn => by
    rw [← BitVec.toNat_inj]; simp only [BitVec.toNat_ofNat]; omega
  split_ifs with h
  · rw [h1 _ hc]; exact ⟨fun e => ⟨h, e⟩, fun e => e.2⟩
  · refine ⟨fun e => absurd e ?_, fun e => absurd e.1 h⟩
    rw [← BitVec.toNat_inj]; simp only [BitVec.toNat_ofNat]; omega

/-- Ten steps in order, as a fold over a list. -/
theorem fold10_eq {α : Type} (f : Fin 10 → α → α) (p : α) : fold10 f p = (List.finRange 10).foldl (fun acc k => f k acc) p := rfl

/-- All boxes of a block have sizes that aren't negative. -/
def SizedBlock : Prop := ∀ r k, Region.Sized (rowOf x r k)

variable {x} (hs : SizedBlock x)
include hs

/-- The last box of the cell decides. -/
theorem target_apply (v : FVec Ideal S40x10 .f32) (w : BitVec 32) : target x a v w (ix2 r s)
    = Region.lastOr (fun k => Region.Hit (rowOf x r k) a s) (fun k => v (ix2 r k)) (Region.fc w) := by
  refine (fold10_read (fun p : FVec Ideal S40x676 .f32 => p (ix2 r s)) _
    (fun k acc => if Region.Hit (rowOf x r k) a s then v (ix2 r k) else acc) (fun k p => ?_) _).trans ?_
  · pointwise [hit_apply x r _ a s (hs r _), cells'_apply]
  · rfl

/-- The kernel's target for the centre, across. -/
theorem tx_apply : target x a (txv x) 0x3F000000#32 (ix2 r s) = Region.target (rowOf x r) a s Region.tx (Region.fc 0x3F000000#32) := by
  rw [target_apply r a s hs]; simp only [txv_apply]; rfl
/-- The kernel's target for the centre, down. -/
theorem ty_apply : target x a (tyv x) 0x3F000000#32 (ix2 r s) = Region.target (rowOf x r) a s Region.ty (Region.fc 0x3F000000#32) := by
  rw [target_apply r a s hs]; simp only [tyv_apply]; rfl
/-- The kernel's target for the width. -/
theorem tw_apply : target x a (twv x) 0x00000000#32 (ix2 r s) = Region.target (rowOf x r) a s Region.tw 0 := by
  rw [target_apply r a s hs, Region.fc, Ideal.ofBits_zero_f32]; simp only [twv_apply x r _ (hs r _)]; rfl
/-- The kernel's target for the height. -/
theorem th_apply : target x a (thv x) 0x00000000#32 (ix2 r s) = Region.target (rowOf x r) a s Region.th 0 := by
  rw [target_apply r a s hs, Region.fc, Ideal.ofBits_zero_f32]; simp only [thv_apply x r _ (hs r _)]; rfl

/-- The kernel's target for the confidence. -/
theorem tconf_apply : tconf o x a (ix2 r s)
    = Region.target (rowOf x r) a s (Region.iou (cellOf o r a s) a s) 0 := by
  refine (fold10_read (fun p : FVec Ideal S40x676 .f32 => p (ix2 r s)) _
    (fun k acc => if Region.Hit (rowOf x r k) a s then Region.iou (cellOf o r a s) a s (rowOf x r k) else acc) (fun k p => ?_) _).trans ?_
  · pointwise [hit_apply x r _ a s (hs r _), iou_apply]
    by_cases h : Region.Hit (rowOf x r k) a s
    · simp only [if_pos h, if_pos h.1]
    · simp only [if_neg h]
  · show fold10 _ (Ideal.ofBits .f32 0#32) = _
    rw [Ideal.ofBits_zero_f32]; rfl

omit hs in
/-- The kernel's greatest overlap. -/
theorem maxIou_apply : maxIou o x a (ix2 r s) = Region.maxIou (rowOf x r) (cellOf o r a s) a s := by
  refine (fold10_read (fun p : FVec Ideal S40x676 .f32 => p (ix2 r s)) _
    (fun k acc => max acc (if Region.valid (rowOf x r k) then Region.iou (cellOf o r a s) a s (rowOf x r k) else 0)) (fun k p => ?_) _).trans ?_
  · pointwise [iou_apply]
  · show fold10 _ (Ideal.ofBits .f32 0#32) = _
    rw [Ideal.ofBits_zero_f32, fold10_eq, Region.foldl_max]
    refine max_eq_right (le_trans ?_ (Finset.le_sup (Finset.mem_univ (0 : Fin 10))))
    split_ifs
    · exact Region.iou_nonneg ..
    · exact le_refl _

omit hs in
/-- A row's number within its picture. -/
theorem rowBase_apply : rowBase (ix2 r (0 : Fin 1)) = BitVec.ofNat 32 (r.val % 20) := by
  pointwise [rowBase, k0_pay5]
  exact Region.mod_word (n := r.val) (d := 20) (by omega) (by norm_num) (by norm_num) _ rfl

omit hs in
/-- A box's code as a number. -/
theorem codes_apply (x : Vec Ideal S1x5x40x10 .f32) : codes x (ix2 r k)
    = BitVec.ofNat 32 ((r.val % 20 * 10 + (k.val + 1)) * 32 + (Region.lab (rowOf x r k)).toNat) := by
  pointwise [codes, rowBase_apply, lab_apply]
  have h := Region.lab_le (rowOf x r k)
  apply BitVec.eq_of_toNat_eq
  simp only [IntOp.addi, IntOp.muli, BitVec.toNat_add, BitVec.toNat_mul, BitVec.toNat_ofNat]
  omega

/-- The kernel's code of a cell: the greatest code of the row's boxes that belong to it. -/
theorem wcode_apply : wcode x a (ix2 r s) = (Finset.univ : Finset (Fin 10)).fold IntOp.maxsi 0#32
    (fun k => if Region.Hit (rowOf x r k) a s then codes x (ix2 r k) else 0#32) := by
  refine (fold10_read (fun p : IVec S40x676 32 => p (ix2 r s)) _
    (fun k acc => IntOp.maxsi acc (if Region.Hit (rowOf x r k) a s then codes x (ix2 r k) else 0#32)) (fun k p => ?_) _).trans ?_
  · pointwise [hit_apply x r _ a s (hs r _), cells'_apply]
  · rw [fold10_eq, ← Region.fold_univ]; rfl

end Cert.KernelIdeal.Block

end
-- ==== Proof.ClassValue.lean ====
/- The kernel's class terms: the greatest code over twenty rows is the code of the last box, and its remainder the label. -/
module

public import proofs.«01_k».proof.Proof.CellValue

@[expose] public section

set_option maxRecDepth 16384

noncomputable section

namespace Cert.KernelIdeal.Block

open Cert.KernelIdeal Cert.KernelIdeal.Gen Idealize.ShloMosaic Classical

variable {x : Vec Ideal S1x5x40x10 .f32} (o : Vec Ideal S40x5x6x676 .f32) (a : Fin 5) (h : Fin 2) (s : Fin 676)

/-- Row `j` of a half block. -/
def half (h : Fin 2) (j : Fin 20) : Fin 40 := ⟨20 * h.val + j.val, by omega⟩

/-- The half's rows of boxes. -/
def halfRows (x : Vec Ideal S1x5x40x10 .f32) (h : Fin 2) : Fin 20 → Region.Row := fun j => rowOf x (half h j)

/-- The half's logits at a cell. -/
def halfLogits (o : Vec Ideal S40x5x6x676 .f32) (a : Fin 5) (h : Fin 2) (s : Fin 676) : Fin 20 → EReal :=
  fun j => cellOf o (half h j) a s 5

/-- The greatest code over a picture's rows. -/
theorem topCode_apply : topCode x a h (ix1 s)
    = (Finset.univ : Finset (Fin 20)).fold IntOp.maxsi 2147483648#32 fun j => wcode x a (ix2 (half h j) s) := by
  obtain rfl | rfl : h = 0 ∨ h = 1 := by omega
  · pointwise [topCode]
    exact Finset.fold_congr fun j _ => congrArg (fun i => wcode x a (ix2 i s)) (Fin.ext (by simp [half]))
  · pointwise [topCode]
    exact Finset.fold_congr fun j _ => congrArg (fun i => wcode x a (ix2 i s)) (Fin.ext (by simp [half]))

/-- A picture's class number at a row and a cell. -/
theorem logits_apply (j : Fin 20) : logits o a h (ix2 j s) = halfLogits o a h s j := by
  fin_cases h <;> pointwise [logits, field_apply] <;> simp [halfLogits, cellOf, half]

/-- The code of box `k` in row `j`. -/
def code (t : Fin 20 → Region.Row) (j : Fin 20) (k : Fin 10) : ℕ := (j.val * 10 + (k.val + 1)) * 32 + (Region.lab (t j k)).toNat

/-- A code is small. -/
theorem code_lt (t : Fin 20 → Region.Row) (j : Fin 20) (k : Fin 10) : code t j k < 2 ^ 31 := by
  have := Region.lab_le (t j k); unfold code; omega

/-- The kernel's codes of one picture's boxes. -/
theorem codes_half (j : Fin 20) (k : Fin 10) : codes x (ix2 (half h j) k) = BitVec.ofNat 32 (code (halfRows x h) j k) := by
  rw [codes_apply, show (half h j).val % 20 = j.val from by simp only [half]; omega]; rfl

/-- A small number's word as an integer. -/
theorem toInt_small {n : ℕ} (hn : n < 2 ^ 31) : (BitVec.ofNat 32 n).toInt = n := by
  rw [BitVec.toInt_eq_toNat_cond, BitVec.toNat_ofNat]; split <;> omega

variable (hs : SizedBlock x)
include hs

/-- One row's greatest code is zero where no box of the row belongs to the cell. -/
theorem wcode_none (j : Fin 20) (hn : ∀ k, ¬Region.Hit (halfRows x h j k) a s) : wcode x a (ix2 (half h j) s) = 0#32 := by
  rw [wcode_apply _ a s hs]
  refine Region.fold_maxsi _ _ _ (le_refl _) (fun k => ?_) (.inl rfl)
  rw [if_neg (show ¬Region.Hit (rowOf x (half h j) k) a s from hn k)]

/-- One row's greatest code is that of the row's last box that belongs to the cell. -/
theorem wcode_last (j : Fin 20) (k : Fin 10) (hk : Region.Hit (halfRows x h j k) a s)
    (hl : ∀ k', k < k' → ¬Region.Hit (halfRows x h j k') a s) :
    wcode x a (ix2 (half h j) s) = BitVec.ofNat 32 (code (halfRows x h) j k) := by
  rw [wcode_apply _ a s hs]
  refine Region.fold_maxsi _ _ _ ?_ (fun k' => ?_) (.inr ⟨k, ?_⟩)
  · rw [toInt_small (code_lt ..)]; simp
  · split_ifs with hk'
    · rw [codes_half, toInt_small (code_lt ..), toInt_small (code_lt ..)]
      rcases lt_trichotomy k' k with h' | rfl | h'
      · have := Region.lab_le (halfRows x h j k')
        have h'' : k'.val < k.val := h'
        simp only [code]; omega
      · exact le_refl _
      · exact absurd hk' (hl k' h')
    · rw [toInt_small (code_lt ..)]; simp
  · rw [if_pos (show Region.Hit (rowOf x (half h j) k) a s from hk), codes_half]

/-- Any row's greatest code is between zero and the codes of its place. -/
theorem wcode_bounds (j : Fin 20) : ∃ n, wcode x a (ix2 (half h j) s) = BitVec.ofNat 32 n ∧ n < (j.val * 10 + 11) * 32 := by
  rcases Region.last_cases (fun k => Region.Hit (halfRows x h j k) a s) with hn | ⟨k, hk, hl⟩
  · exact ⟨0, wcode_none a h s hs j hn, by omega⟩
  · refine ⟨_, wcode_last a h s hs j k hk hl, ?_⟩
    have := Region.lab_le (halfRows x h j k); unfold code; omega

/-- No box on the cell: the code is zero. -/
theorem topCode_none (hn : ∀ j k, ¬Region.Hit (halfRows x h j k) a s) : topCode x a h (ix1 s) = 0#32 := by
  rw [topCode_apply]
  refine Region.fold_maxsi _ _ _ (by decide) (fun j => ?_) (.inr ⟨0, wcode_none a h s hs 0 (hn 0)⟩)
  rw [wcode_none a h s hs j (hn j)]

/-- The greatest code is that of the picture's last box on the cell. -/
theorem topCode_last (j : Fin 20) (k : Fin 10) (hk : Region.Hit (halfRows x h j k) a s)
    (hl : ∀ k', k < k' → ¬Region.Hit (halfRows x h j k') a s) (hj : ∀ j', j < j' → ∀ k', ¬Region.Hit (halfRows x h j' k') a s) :
    topCode x a h (ix1 s) = BitVec.ofNat 32 (code (halfRows x h) j k) := by
  rw [topCode_apply]
  refine Region.fold_maxsi _ _ _ ?_ (fun j' => ?_) (.inr ⟨j, wcode_last a h s hs j k hk hl⟩)
  · rw [toInt_small (code_lt ..)]
    refine le_trans (b := (0 : ℤ)) (by decide) (by simp)
  · rcases lt_trichotomy j' j with h' | rfl | h'
    · obtain ⟨n, en, hn⟩ := wcode_bounds a h s hs j'
      have h'' : j'.val < j.val := h'
      rw [en, toInt_small (by omega), toInt_small (code_lt ..)]
      simp only [code]; omega
    · rw [wcode_last a h s hs j' k hk hl]
    · rw [wcode_none a h s hs j' (hj j' h')]
      rw [toInt_small (code_lt ..)]; simp

omit hs in
/-- The greatest class number at a cell. -/
theorem top_apply : top o a h (ix1 s) = Finset.univ.sup (halfLogits o a h s) := by
  pointwise [top, logits_apply]
  rw [show Ideal.ofBits .f32 4286578688#32 = ⊥ from Region.fc_negInf]; rfl

omit hs in
/-- The logarithm of the sum of exponentials at a cell. -/
theorem lse_apply : lse o a h (ix1 s) = Finset.univ.sup (halfLogits o a h s)
    + Ideal.log (∑ j, Ideal.exp (halfLogits o a h s j - Finset.univ.sup (halfLogits o a h s))) := by
  pointwise [lse, top_apply, logits_apply]

omit hs in
/-- The remainder by 32 of a small number. -/
theorem rem32_apply (w : IVec S676 32) (n : ℕ) (hn : n < 2 ^ 31) (hw : w (ix1 s) = BitVec.ofNat 32 n) :
    rem32 w (ix1 s) = BitVec.ofNat 32 (n % 32) := by
  pointwise [rem32, hw]
  exact Region.mod_word hn (d := 32) (by norm_num) (by norm_num) (Scalar.select (Scalar.cmpi .eq 32#32 0#32) 1#32 32#32) rfl

omit hs in
/-- The logit that the code's label names. -/
theorem logitAt_apply (n : ℕ) (hn : n < 2 ^ 31) (hw : topCode x a h (ix1 s) = BitVec.ofNat 32 n) (c : Fin 20) (hc : n % 32 = c.val) :
    logitAt o x a h (ix1 s) = halfLogits o a h s c := by
  have key : logitAt o x a h (ix1 s) = ∑ j : Fin 20,
      Scalar.select (IntOp.cmpi .eq (rowBase (ix2 (half h j) 0)) (rem32 (topCode x a h) (ix1 s))) (logits o a h (ix2 j s)) 0 := by
    obtain rfl | rfl : h = 0 ∨ h = 1 := by omega
    · pointwise [logitAt]
      exact Finset.sum_congr rfl fun j _ => congrArg (fun i => Scalar.select (IntOp.cmpi .eq (rowBase (ix2 i 0))
        (rem32 (topCode x a 0) (ix1 s))) (logits o a 0 (ix2 j s)) 0) (Fin.ext (by simp [half]))
    · pointwise [logitAt]
      exact Finset.sum_congr rfl fun j _ => congrArg (fun i => Scalar.select (IntOp.cmpi .eq (rowBase (ix2 i 0))
        (rem32 (topCode x a 1) (ix1 s))) (logits o a 1 (ix2 j s)) 0) (Fin.ext (by simp [half]))
  rw [key, Finset.sum_eq_single c]
  · rw [rowBase_apply, rem32_apply s _ n hn hw, hc, show (half h c).val % 20 = c.val from by simp only [half]; omega, logits_apply]
    simp [IntOp.cmpi, Scalar.select]
  · intro j _ hj
    rw [rowBase_apply, rem32_apply s _ n hn hw, hc, show (half h j).val % 20 = j.val from by simp only [half]; omega]
    have : ¬BitVec.ofNat 32 j.val = BitVec.ofNat 32 c.val := fun e => hj (Fin.ext (by
      have := congrArg BitVec.toNat e; simp only [BitVec.toNat_ofNat] at this; omega))
    simp [IntOp.cmpi, Scalar.select, beq_eq_false_iff_ne.mpr this]
  · intro hc; exact absurd (Finset.mem_univ c) hc

/-- The half's class loss at a cell. -/
theorem cellCls_apply : cellCls o x a h (ix1 s) = Region.cls (halfRows x h) (halfLogits o a h s) a s := by
  pointwise [cellCls]
  rcases Region.last_cases (N := 200) (fun u => Region.Hit (halfRows x h ⟨u.val / 10, by omega⟩ ⟨u.val % 10, by omega⟩) a s)
    with hn | ⟨u, hu, hl⟩
  · have hn' : ∀ j k, ¬Region.Hit (halfRows x h j k) a s := fun j k hjk => hn ⟨j.val * 10 + k.val, by omega⟩ (by
      have e1 : (⟨(j.val * 10 + k.val) / 10, by omega⟩ : Fin 20) = j := Fin.ext (by simp only []; omega)
      have e2 : (⟨(j.val * 10 + k.val) % 10, by omega⟩ : Fin 10) = k := Fin.ext (by simp only []; omega)
      simp only [e1, e2]; exact hjk)
    rw [topCode_none a h s hs hn', Region.cls, if_neg (by simpa using hn')]
    rfl
  · have order : ∀ j k, u.val < j.val * 10 + k.val → ¬Region.Hit (halfRows x h j k) a s := fun j k hjk hH =>
      hl ⟨j.val * 10 + k.val, by omega⟩ hjk (by
        have e1 : (⟨(j.val * 10 + k.val) / 10, by omega⟩ : Fin 20) = j := Fin.ext (by simp only []; omega)
        have e2 : (⟨(j.val * 10 + k.val) % 10, by omega⟩ : Fin 10) = k := Fin.ext (by simp only []; omega)
        simp only [e1, e2]; exact hH)
    have hcode := topCode_last a h s hs ⟨u.val / 10, by omega⟩ ⟨u.val % 10, by omega⟩ hu
      (fun k' hk' => order _ _ (by have : u.val % 10 < k'.val := hk'; simp only []; omega))
      (fun j' hj' k' => order _ _ (by have : u.val / 10 < j'.val := hj'; omega))
    have hlab := Region.lab_le (halfRows x h ⟨u.val / 10, by omega⟩ ⟨u.val % 10, by omega⟩)
    have hlabel : Region.label (halfRows x h) a s = Region.lab (halfRows x h ⟨u.val / 10, by omega⟩ ⟨u.val % 10, by omega⟩) := by
      unfold Region.label
      exact Region.lastOr_last _ _ u hu hl
    simp only [Region.cls, if_pos (show ∃ r k, Region.Hit (halfRows x h r k) a s from ⟨_, _, hu⟩), hlabel]
    rw [lse_apply,
      logitAt_apply o a h s _ (code_lt ..) hcode ⟨(Region.lab (halfRows x h ⟨u.val / 10, by omega⟩ ⟨u.val % 10, by omega⟩)).toNat % 20,
        Nat.mod_lt _ (by norm_num)⟩ (by simp only [code]; omega), hcode,
      Region.sgt_zero _ (code_lt ..) (by simp only [code]; omega)]
    rfl

end Cert.KernelIdeal.Block

end
-- ==== Proof.BlockTotal.lean ====
/- What one grid point adds, as sums over its cells. -/
module

public import proofs.«01_k».proof.Proof.ClassValue

@[expose] public section

set_option maxRecDepth 16384

noncomputable section

namespace Cert.KernelIdeal.Block

open Cert.KernelIdeal Cert.KernelIdeal.Gen Idealize.ShloMosaic Classical

variable (o : Vec Ideal S40x5x6x676 .f32) {x : Vec Ideal S1x5x40x10 .f32} (r : Fin 40) (a : Fin 5) (s : Fin 676) (hs : SizedBlock x)

/-- Row `r` as the row of a half. -/
theorem half_div (r : Fin 40) : ∃ h j, r = half h j :=
  ⟨⟨r.val / 20, by omega⟩, ⟨r.val % 20, by omega⟩, Fin.ext (by simp only [half]; omega)⟩

include hs in
/-- A code above zero says that the row has a box in the cell. -/
theorem wcode_pos : IntOp.cmpi .sgt (wcode x a (ix2 r s)) 0#32 = BitVec.ofBool (decide (∃ k, Region.Hit (rowOf x r k) a s)) := by
  obtain ⟨h, j, rfl⟩ := half_div r
  rcases Region.last_cases (fun k => Region.Hit (halfRows x h j k) a s) with hn | ⟨k, hk, hl⟩
  · rw [wcode_none a h s hs j hn, decide_eq_false (show ¬∃ k, Region.Hit (rowOf x (half h j) k) a s from fun ⟨k, hk⟩ => hn k hk)]
    rfl
  · have hc := code_lt (halfRows x h) j k
    rw [wcode_last a h s hs j k hk hl, decide_eq_true (show ∃ k, Region.Hit (rowOf x (half h j) k) a s from ⟨k, hk⟩)]
    exact Region.sgt_zero _ hc (by unfold code; omega)

include hs in
/-- The kernel's weight of the confidence. -/
theorem confMask_apply : confMask o x a (ix2 r s) = Region.weight (rowOf x r) (cellOf o r a s) a s := by
  pointwise [confMask, wcode_pos r a s hs, maxIou_apply]
  rw [Region.weight]

include hs in
/-- The kernel's squares of a cell. -/
theorem cellSq_apply : cellSq o x a (ix2 r s) = Region.sq (rowOf x r) (cellOf o r a s) a s := by
  pointwise [cellSq, field_apply, confMask_apply o r a s hs, tx_apply r a s hs, ty_apply r a s hs, tw_apply r a s hs,
    th_apply r a s hs, tconf_apply (hs := hs)]
  rfl

include hs in
/-- An anchor's squares summed over the block. -/
theorem sqSum_eq (a : Fin 5) : sqSum o x a = ∑ r, ∑ s, Region.sq (rowOf x r) (cellOf o r a s) a s := by
  pointwise [sqSum]
  exact Finset.sum_congr rfl fun r _ => Finset.sum_congr rfl fun s _ => cellSq_apply o r a s hs

include hs in
/-- An anchor's class losses summed over one picture. -/
theorem clsSum_eq (a : Fin 5) (h : Fin 2) : clsSum o x a h = ∑ s, Region.cls (halfRows x h) (halfLogits o a h s) a s := by
  pointwise [clsSum]
  exact Finset.sum_congr rfl fun s _ => cellCls_apply o a h s hs

include hs in
/-- The block's loss. -/
theorem total_eq : total o x = ∑ a, (Region.fc 0x3F000000#32 * ∑ r, ∑ s, Region.sq (rowOf x r) (cellOf o r a s) a s
    + ∑ h, ∑ s, Region.cls (halfRows x h) (halfLogits o a h s) a s) := by
  have e : total o x = fold5 (fun a acc => (acc + Region.fc 0x3F000000#32 * sqSum o x a)
      + ((0 + clsSum o x a 0) + clsSum o x a 1)) 0 := by
    pointwise [total, fold5]
  rw [e]
  simp only [fold5, sqSum_eq o hs, clsSum_eq o hs, Fin.sum_univ_five, Fin.sum_univ_two, zero_add]
  ac_rfl

end Cert.KernelIdeal.Block

end
-- ==== Proof.BlockRun.lean ====
/- The kernel's run: each grid point leaves its block's contribution, added to what the point before left; so the result
   is the sum of the eight blocks' losses. -/
module

public import proofs.«01_k».proof.Proof.Block
public import proofs.«01_k».proof.Proof.Gen.KernelIdeal.Frame
public import Idealize.ShloMosaic.Lib.Pipeline.Value
public import Idealize.ShloMosaic.Lib.Pipeline.ValueKit
public import Idealize.ShloMosaic.Lib.Pointwise
public import Idealize.ShloMosaic.Lib.Tactic
public import Idealize.ShloMosaic.Lib.Claim

@[expose] public section

noncomputable section

namespace Cert.KernelIdeal.Block

open Cert.KernelIdeal Cert.KernelIdeal.Gen Idealize.ShloMosaic Idealize.ShloMosaic.TcCoe Idealize.SL.Sem

section

variable {F : FTy → Type} [FloatOps F] [Named F]

/-- Two zero offsets. -/
theorem zero_offsets : (![0, 0] : Fin 2 → Nat) = fun _ => 0 := funext fun a => by fin_cases a <;> rfl

set_option maxRecDepth 16384 in
set_option maxHeartbeats 4000000 in
/-- The first point leaves its block's contribution. -/
theorem out_A (c : Dev nD) (i : grid0.Coords) (a1 : Memref sig .tc .vmem S40x5x6x676 .f32) (h1 : a1.IsWhole)
    (a2 : Memref sig .tc .vmem S1x5x40x10 .f32) (h2 : a2.IsWhole) (a3 : Memref sig .tc .vmem S8x128 .f32) (h3 : a3.IsWhole)
    (hc : cond0_0 i) (hc' : ¬cond0_1 i) (o : Vec F S40x5x6x676 .f32) (x : Vec F S1x5x40x10 .f32) :
    out0_A_2 c i a1 h1 a2 h2 a3 h3 hc hc' o x = contrib o x := by
  unfold out0_A_2
  rw [View.read_writes_eq_canon _ _ _ (cover0_A_2 c i a1 h1 a2 h2 a3 h3 hc hc' o x)]
  unfold kernelRun0_A
  dsimp only
  sl_unfold_words
  rw [View.canon_unit_zero zero_offsets]
  simp only [View.readAt_eq_ld, h1.read_unread, h2.read_unread]
  refine (show k0_pay1 _ _ _ _ = k0_pay1 _ _ _ _ from ?_)
  sl_kernel_rfl

set_option maxRecDepth 16384 in
set_option maxHeartbeats 4000000 in
/-- A later point adds its block's contribution to what it finds. -/
theorem out_B (c : Dev nD) (i : grid0.Coords) (a1 : Memref sig .tc .vmem S40x5x6x676 .f32) (h1 : a1.IsWhole)
    (a2 : Memref sig .tc .vmem S1x5x40x10 .f32) (h2 : a2.IsWhole) (a3 : Memref sig .tc .vmem S8x128 .f32) (h3 : a3.IsWhole)
    (hc : ¬cond0_0 i) (hc' : cond0_1 i) (o : Vec F S40x5x6x676 .f32) (x : Vec F S1x5x40x10 .f32) (xo : Vec F S8x128 .f32) :
    out0_B_2 c i a1 h1 a2 h2 a3 h3 hc hc' o x xo = addf xo (contrib o x) := by
  unfold out0_B_2
  rw [View.read_writes_eq_canon _ _ _ (cover0_B_2 c i a1 h1 a2 h2 a3 h3 hc hc' o x xo)]
  unfold kernelRun0_B
  dsimp only
  sl_unfold_words
  rw [View.canon_unit_zero zero_offsets]
  simp only [View.readAt_eq_ld, h1.read_unread, h2.read_unread, h3.read_unread, View.ld_unit_zero (S := S8x128) zero_offsets]
  refine (show k0_pay2 _ _ _ _ xo = addf xo (k0_pay1 _ _ _ _) from by unfold k0_pay2; rw [shapeCast_self]).trans ?_
  sl_kernel_rfl

end

variable (m : (ℓ : Loc nD τ sig) → Buf (Elt Ideal) ℓ) (ρ : Dev nD → PrngReg)

/-- The contribution's first element is the block's loss. -/
theorem contrib_apply (o : Vec Ideal S40x5x6x676 .f32) (x : Vec Ideal S1x5x40x10 .f32) :
    contrib o x (ix2 0 0) = total o x := by
  unfold contrib
  generalize total o x = s
  pointwise [k0_pay1]
  rfl

/-- After the last point the staging buffer holds at its first element the sum of the blocks' losses. -/
theorem outsAt_last (c : Dev nD) :
    outsAt0 m c t0_7.val t0_7.isLt (ix2 0 0) = ∑ t : Fin cfg0.N, total (iblk m c 0 t) (iblk m c 1 t) := by
  rw [Pipeline.eq_sum_fin_of_reset_step_apply_last (fun n h => outsAt0 m c n h) 8 (fun _ => (0 : EReal))
    (fun t j => contrib (iblk m c 0 t) (iblk m c 1 t) j)
    (fun t h j => by
      rw [outsAt0_A m c t h (by have := t.isLt; have : cfg0.N = 8 := N_0; omega), out_A, zero_add])
    (fun t h j => by
      rw [outsAt0_B m c t h (by omega), out_B]
      rfl)
    (le_of_eq N_0) t0_7 rfl (ix2 0 0), zero_add]
  exact Finset.sum_congr rfl fun t _ => contrib_apply _ _

/-- The result array's first element. -/
theorem final (c : Dev nD) (G : Buf (Elt Ideal) ((c : Thread nD τ).loc main_v4))
    (hG : G = outsAt0 m c t0_7.val t0_7.isLt) : (dats m 0 c).arrAt 2 cfg0.N = G := by
  refine (dats m 0 c).arrAt_eq_of_after_last 2 t0_7 (by decide +kernel) _ fun j => ?_
  rw [after0_2, hG]
  blk_simp
  rfl

/-- What the lines after the region leave in the result: the sum of the eight blocks' losses. -/
theorem W_result (c : Dev nD) : Pipeline.afterTail₀ cfgs (dats m) 0 (V0 m) [hostOps1] c main_v6
    = (fun _ => ∑ t : Fin cfg0.N, total (iblk m c 0 t) (iblk m c 1 t)) := by
  unfold Pipeline.afterTail₀
  simp only [hostOps1, List.flatten_cons, List.flatten_nil, List.append_nil, List.cons_append, List.nil_append]
  after_results
  rw [show Pipeline.withArrays (cfgs 0).spec c (V0 m c) (fun w => (dats m 0 c).arrAt w (cfgs 0).N) (Proc.devRef .tc main_v4)
    = (dats m 0 c).arrAt 2 cfg0.N from Pipeline.withArrays_arr spec0 (by decide) c (V0 m c) _ 2, final m c _ rfl]
  funext j
  pointwise
  exact outsAt_last m c

/-- The kernel's result: the sum of the eight blocks' losses. -/
theorem run : θ_run (defs (F := Ideal)) (onTc (τ := τ) (main (F := Ideal))) ⟨m, fun _ => 0, ρ⟩ (fun r => ∀ c : Dev nD,
    r.2.mem ((c : Thread nD τ).loc main_v6) = (fun _ => ∑ t : Fin cfg0.N, total (iblk m c 0 t) (iblk m c 1 t))
    ∧ r.2.mem ((c : Thread nD τ).loc main_arg0) = m ((c : Thread nD τ).loc main_arg0)
    ∧ r.2.mem ((c : Thread nD τ).loc main_arg1) = m ((c : Thread nD τ).loc main_arg1)) := by
  run_from run_main m ρ
  · exact W_result m c
  · exact W_main_arg0 m (dats m) c
  · exact W_main_arg1 m (dats m) c

end Cert.KernelIdeal.Block

end
-- ==== Proof.Reads.lean ====
/- A grid point's two blocks, read against the arguments. -/
module

public import proofs.«01_k».proof.Proof.BlockRun
public import proofs.«01_k».proof.Proof.ClassValue

@[expose] public section

set_option maxRecDepth 16384

noncomputable section

namespace Region

open Idealize.ShloMosaic

/-- Cell `(n, a, s)`'s six numbers in the predictions. -/
def cellA (A : (⟨4, ![320, 30, 26, 26]⟩ : Shape).Idx → EReal) (n : Fin 320) (a : Fin 5) (s : Fin 676) : Cell :=
  fun f => A (ix4 n ⟨a.val * 6 + f.val, by omega⟩ ⟨s.val / 26, by omega⟩ ⟨s.val % 26, by omega⟩)

/-- Row `n`'s ten boxes in the targets. -/
def rowA (A : (⟨3, ![16, 20, 50]⟩ : Shape).Idx → EReal) (n : Fin 320) : Row :=
  fun k f => A (ix3 ⟨n.val / 20, by omega⟩ ⟨n.val % 20, by omega⟩ ⟨k.val * 5 + f.val, by omega⟩)

end Region

namespace Cert.KernelIdeal.Block

open Cert.KernelIdeal Cert.KernelIdeal.Gen Idealize.ShloMosaic Idealize.ShloMosaic.TcCoe Idealize.SL.Sem

/-- Grid point `t` takes block `t` of both arrays. -/
theorem idx : ∀ t : Fin cfg0.N, win0_0.index t = ![t.val, 0, 0, 0] ∧ win0_1.index t = ![t.val, 0, 0, 0] :=
  (by decide +kernel : ∀ t : Fin grid0.N, _)

variable (m : (ℓ : Loc nD τ sig) → Buf (Elt Ideal) ℓ) (c : Dev nD) (t : Fin cfg0.N)

/-- Row `r` of point `t`'s block. -/
def rowNo (t : Fin cfg0.N) (r : Fin 40) : Fin 320 := ⟨t.val * 40 + r.val, by have h : t.val < grid0.N := t.isLt; rw [N_0] at h; omega⟩

/-- A cell of a point's block is a cell of the predictions. -/
theorem iblk0_cell (r : Fin 40) (a : Fin 5) (s : Fin 676) : cellOf (iblk m c 0 t) r a s
    = Region.cellA (m ((c : Thread nD τ).loc main_arg0)) (rowNo t r) a s := by
  funext f
  show iblk m c 0 t (ix4 r a f s) = _
  rw [iblk]
  blk_simp [V]
  rw [show ((win0_0.blk t).view.emb (ix4 r a f s)) = ix4 (rowNo t r) a f s by blk_ext [idx t, rowNo]]
  show V m c main_v0 _ = _
  unfold V V0
  simp only [List.flatten_cons, List.flatten_nil, List.append_nil, hostOps0]
  after_results
  pointwise
  rfl

/-- A row of a point's block is a row of the targets. -/
theorem iblk1_row (r : Fin 40) : rowOf (iblk m c 1 t) r
    = Region.rowA (m ((c : Thread nD τ).loc main_arg1)) (rowNo t r) := by
  funext k f
  show iblk m c 1 t (ix4 0 f r k) = _
  rw [iblk]
  blk_simp [V]
  rw [show ((win0_1.blk t).view.emb (ix4 0 f r k)) = ix4 ⟨t.val, t.isLt⟩ f r k by blk_ext [idx t]]
  show V m c main_v3 _ = _
  unfold V V0
  simp only [List.flatten_cons, List.flatten_nil, List.append_nil, hostOps0]
  after_results
  have ht : t.val < 8 := lt_of_lt_of_eq t.isLt N_0
  pointwise
  refine congrArg (m (c, Proc.tc.devRef main_arg1)) ?_
  rw [show (⟨t.val * 2 + r.val / 20, by omega⟩ : Fin 16) = ⟨(rowNo t r).val / 20, by omega⟩ from
      Fin.ext (by simp only [rowNo]; omega),
    show (⟨r.val % 20, by omega⟩ : Fin 20) = ⟨(rowNo t r).val % 20, by omega⟩ from
      Fin.ext (by simp only [rowNo]; omega)]

end Cert.KernelIdeal.Block

end
-- ==== Proof.Loss.lean ====
/- What the kernel's launch returns: the loss as sums over all cells. -/
module

public import proofs.«01_k».proof.Proof.BlockTotal
public import proofs.«01_k».proof.Proof.Reads

@[expose] public section

set_option maxRecDepth 16384

noncomputable section

namespace Region

open Idealize.ShloMosaic Classical

/-- A number that is neither negative nor `⊤` distributes over a sum. -/
theorem mul_sum_of_nonneg {ι : Type} (t : Finset ι) {c : EReal} (h0 : 0 ≤ c) (hc : c ≠ ⊤) (f : ι → EReal) :
    c * ∑ i ∈ t, f i = ∑ i ∈ t, c * f i := by
  induction t using Finset.induction_on with
  | empty => simp
  | insert i t hi ih => rw [Finset.sum_insert hi, Finset.sum_insert hi, EReal.left_distrib_of_nonneg_of_ne_top h0 hc, ih]

/-- One half is not negative. -/
theorem half_nonneg : 0 ≤ fc 0x3F000000#32 := by rw [fc_half]; exact EReal.coe_nonneg.mpr (by norm_num)
/-- One half is finite. -/
theorem half_ne_top : fc 0x3F000000#32 ≠ ⊤ := by rw [fc_half]; exact EReal.coe_ne_top _

/-- The squares of all cells. -/
def squares (A : (⟨4, ![320, 30, 26, 26]⟩ : Shape).Idx → EReal) (B : (⟨3, ![16, 20, 50]⟩ : Shape).Idx → EReal) : EReal :=
  ∑ n : Fin 320, ∑ a : Fin 5, ∑ s : Fin 676, sq (rowA B n) (cellA A n a s) a s

/-- Row `j` of image `b`. -/
def rowIn (b : Fin 16) (j : Fin 20) : Fin 320 := ⟨b.val * 20 + j.val, by omega⟩

/-- An image's twenty rows. -/
def rowsB (B : (⟨3, ![16, 20, 50]⟩ : Shape).Idx → EReal) (b : Fin 16) : Fin 20 → Row := fun j => rowA B (rowIn b j)

/-- An image's twenty logits at a cell. -/
def logitsB (A : (⟨4, ![320, 30, 26, 26]⟩ : Shape).Idx → EReal) (b : Fin 16) (a : Fin 5) (s : Fin 676) : Fin 20 → EReal :=
  fun j => cellA A (rowIn b j) a s 5

/-- The class losses of all cells. -/
def classes (A : (⟨4, ![320, 30, 26, 26]⟩ : Shape).Idx → EReal) (B : (⟨3, ![16, 20, 50]⟩ : Shape).Idx → EReal) : EReal :=
  ∑ b : Fin 16, ∑ a : Fin 5, ∑ s : Fin 676, cls (rowsB B b) (logitsB A b a s) a s

/-- The loss. -/
def loss (A : (⟨4, ![320, 30, 26, 26]⟩ : Shape).Idx → EReal) (B : (⟨3, ![16, 20, 50]⟩ : Shape).Idx → EReal) : EReal :=
  fc 0x3F000000#32 * squares A B + classes A B

end Region

namespace Cert.KernelIdeal.Block

open Cert.KernelIdeal Cert.KernelIdeal.Gen Idealize.ShloMosaic Idealize.ShloMosaic.TcCoe Idealize.SL.Sem

variable (m : (ℓ : Loc nD τ sig) → Buf (Elt Ideal) ℓ) (c : Dev nD)

/-- Half of a point's rows are a picture's rows. -/
theorem halfRows_eq (t : Fin cfg0.N) (h : Fin 2) (b : Fin 16) (hb : b.val = t.val * 2 + h.val) :
    halfRows (iblk m c 1 t) h = Region.rowsB (m ((c : Thread nD τ).loc main_arg1)) b := by
  funext j
  show rowOf (iblk m c 1 t) (half h j) = _
  rw [iblk1_row]
  exact congrArg _ (Fin.ext (by simp only [rowNo, half, Region.rowIn]; omega))

/-- The class numbers of half of a point's rows are a picture's. -/
theorem halfLogits_eq (t : Fin cfg0.N) (h : Fin 2) (a : Fin 5) (s : Fin 676) (b : Fin 16) (hb : b.val = t.val * 2 + h.val) :
    halfLogits (iblk m c 0 t) a h s = Region.logitsB (m ((c : Thread nD τ).loc main_arg0)) b a s := by
  funext j
  show cellOf (iblk m c 0 t) (half h j) a s 5 = _
  rw [iblk0_cell]
  exact congrArg (fun n => Region.cellA _ n a s 5) (Fin.ext (by simp only [rowNo, half, Region.rowIn]; omega))

/-- The sum over the grid is the loss. -/
theorem sum_total (hs : ∀ n k, Region.Sized (Region.rowA (m ((c : Thread nD τ).loc main_arg1)) n k)) :
    ∑ t : Fin cfg0.N, total (iblk m c 0 t) (iblk m c 1 t)
    = Region.loss (m ((c : Thread nD τ).loc main_arg0)) (m ((c : Thread nD τ).loc main_arg1)) := by
  have hb (t : Fin cfg0.N) : SizedBlock (iblk m c 1 t) := fun r k => by rw [iblk1_row]; exact hs _ _
  simp only [total_eq _ (hb _), Finset.sum_add_distrib, Region.loss]
  congr 1
  · simp only [← Region.mul_sum_of_nonneg Finset.univ Region.half_nonneg Region.half_ne_top]
    refine congrArg _ ?_
    refine Eq.trans (Finset.sum_congr rfl fun t _ => Finset.sum_comm) ?_
    refine Fin.sum_mul_add_congr (fun t r hl => ?_) (by rw [show cfg0.N = 8 from N_0])
    simp only [iblk0_cell, iblk1_row]
    rfl
  · refine Eq.trans (Finset.sum_congr rfl fun t _ => Finset.sum_comm) ?_
    refine Fin.sum_mul_add_congr (fun t h hl => ?_) (by rw [show cfg0.N = 8 from N_0])
    refine Finset.sum_congr rfl fun a _ => Finset.sum_congr rfl fun s _ => ?_
    rw [halfRows_eq m c t h ⟨_, hl⟩ rfl, halfLogits_eq m c t h a s ⟨_, hl⟩ rfl]

end Cert.KernelIdeal.Block

end
-- ==== Proof.RefBoxes.lean ====
/- The reference's predictions and boxes, at an index. -/
module

public import proofs.«01_k».proof.Proof.Loss
public import proofs.«01_k».proof.Proof.Gen.ReferenceIdeal.Run
public import Idealize.ShloMosaic.Lib.Pointwise
public import Idealize.ShloMosaic.Lib.Tactic.CleanTypes

@[expose] public section

set_option maxRecDepth 16384

noncomputable section

namespace Cert.ReferenceIdeal.Loss

open Cert.ReferenceIdeal Cert.ReferenceIdeal.Value Idealize.ShloMosaic Classical

variable (V : Valuation τ sig (Elt Ideal))

/-- The predictions. -/
abbrev O : S320x30x26x26.Idx → EReal := V (Proc.tc.devRef main_arg0)
/-- The targets. -/
abbrev T : S16x20x50.Idx → EReal := V (Proc.tc.devRef main_arg1)

/-- Row `n`'s boxes. -/
abbrev row (n : Fin 320) : Region.Row := Region.rowA (T V) n
/-- The cell's numbers. -/
abbrev cellAt (n : Fin 320) (a : Fin 5) (s : Fin 676) : Region.Cell := Region.cellA (O V) n a s

variable (n : Fin 320) (k : Fin 10) (a : Fin 5)

/-- The table of anchors holds the anchors' widths and heights. -/
theorem cst_apply (a : Fin 5) : res_main_cst V (ix2 a 0) = Region.aw a ∧ res_main_cst V (ix2 a 1) = Region.ah a := by
  fin_cases a <;> exact ⟨rfl, rfl⟩

/-- Box `p` of a row's 3380 belongs to anchor `p / 676` and cell `p % 676`. -/
def aOf (p : Fin 3380) : Fin 5 := ⟨p.val / 676, by omega⟩
/-- The cell of a place. -/
def sOf (p : Fin 3380) : Fin 676 := ⟨p.val % 676, by omega⟩

/-- The predictions by anchor, field, row and column. -/
theorem v0_apply (f : Fin 6) (s : Fin 676) (y x : Fin 26) (hy : y.val = s.val / 26) (hx : x.val = s.val % 26) :
    res_main_v0 V (ix5 n a f y x) = cellAt V n a s f := by
  clean_types
  pointwise [res_main_v0]
  obtain ⟨y, hy'⟩ := y
  obtain ⟨x, hx'⟩ := x
  obtain rfl : y = s.val / 26 := hy
  obtain rfl : x = s.val % 26 := hx
  rfl

/-- The logistic of a cell's first number. -/
theorem v8_apply (s : Fin 676) (y x : Fin 26) (hy : y.val = s.val / 26) (hx : x.val = s.val % 26) :
    res_main_v8 V (ix4 n a y x) = Ideal.logistic (cellAt V n a s 0) := by
  rw [← v0_apply V n a 0 s y x hy hx]
  clean_types
  pointwise [res_main_v8]
  rfl

/-- The logistic of a cell's second number. -/
theorem v16_apply (s : Fin 676) (y x : Fin 26) (hy : y.val = s.val / 26) (hx : x.val = s.val % 26) :
    res_main_v16 V (ix4 n a y x) = Ideal.logistic (cellAt V n a s 1) := by
  rw [← v0_apply V n a 1 s y x hy hx]
  clean_types
  pointwise [res_main_v16]
  rfl

/-- A cell's third number. -/
theorem v18_apply (s : Fin 676) (y x : Fin 26) (hy : y.val = s.val / 26) (hx : x.val = s.val % 26) :
    res_main_v18 V (ix4 n a y x) = cellAt V n a s 2 := by
  rw [← v0_apply V n a 2 s y x hy hx]
  clean_types
  pointwise [res_main_v18]

/-- A cell's fourth number. -/
theorem v20_apply (s : Fin 676) (y x : Fin 26) (hy : y.val = s.val / 26) (hx : x.val = s.val % 26) :
    res_main_v20 V (ix4 n a y x) = cellAt V n a s 3 := by
  rw [← v0_apply V n a 3 s y x hy hx]
  clean_types
  pointwise [res_main_v20]

/-- A predicted box's four numbers. -/
def pbox (o : Region.Cell) (a : Fin 5) (s : Fin 676) : Fin 4 → EReal :=
  ![Region.px o s, Region.py o s, Region.pw o a, Region.ph o a]

/-- A place's row of the grid. -/
theorem place_y (p : Fin 3380) : p.val / 26 % 26 = (sOf p).val / 26 := by simp only [sOf]; omega
/-- A place's column of the grid. -/
theorem place_x (p : Fin 3380) : p.val % 26 = (sOf p).val % 26 := by simp only [sOf]; omega

/-- The predicted box's centre, across, at a place. -/
theorem v58_x (p : Fin 3380) : res_main_v58 V (ix3 n p 0) = Region.px (cellAt V n (aOf p) (sOf p)) (sOf p) := by
  have h := v8_apply V n (aOf p) (sOf p) ⟨p.val / 26 % 26, by omega⟩ ⟨p.val % 26, by omega⟩ (place_y p) (place_x p)
  rw [Region.px, ← h, ← place_x p, ← Cert.KernelIdeal.Block.sitofp_nat _ (by omega)]
  unfold res_main_v58
  clean_types
  pointwise
  rfl

/-- The predicted box's centre, down, at a place. -/
theorem v58_y (p : Fin 3380) : res_main_v58 V (ix3 n p 1) = Region.py (cellAt V n (aOf p) (sOf p)) (sOf p) := by
  have h := v16_apply V n (aOf p) (sOf p) ⟨p.val / 26 % 26, by omega⟩ ⟨p.val % 26, by omega⟩ (place_y p) (place_x p)
  rw [Region.py, ← h, ← place_y p, ← Cert.KernelIdeal.Block.sitofp_nat _ (by omega)]
  unfold res_main_v58
  clean_types
  pointwise
  rfl

/-- The predicted box's width at a place. -/
theorem v58_w (p : Fin 3380) : res_main_v58 V (ix3 n p 2) = Region.pw (cellAt V n (aOf p) (sOf p)) (aOf p) := by
  have h := v18_apply V n (aOf p) (sOf p) ⟨p.val / 26 % 26, by omega⟩ ⟨p.val % 26, by omega⟩ (place_y p) (place_x p)
  rw [Region.pw, ← h, ← (cst_apply V _).1]
  unfold res_main_v58
  clean_types
  pointwise
  rfl

/-- The predicted box's height at a place. -/
theorem v58_h (p : Fin 3380) : res_main_v58 V (ix3 n p 3) = Region.ph (cellAt V n (aOf p) (sOf p)) (aOf p) := by
  have h := v20_apply V n (aOf p) (sOf p) ⟨p.val / 26 % 26, by omega⟩ ⟨p.val % 26, by omega⟩ (place_y p) (place_x p)
  rw [Region.ph, ← h, ← (cst_apply V _).2]
  unfold res_main_v58
  clean_types
  pointwise
  rfl

/-- The predicted box's four numbers at a place. -/
theorem v58_apply (p : Fin 3380) (f : Fin 4) : res_main_v58 V (ix3 n p f) = pbox (cellAt V n (aOf p) (sOf p)) (aOf p) (sOf p) f := by
  fin_cases f
  exacts [v58_x V n p, v58_y V n p, v58_w V n p, v58_h V n p]

/-- A box's centre in cells, across. -/
theorem v69_apply : res_main_v69 V (ix2 n k) = Region.gx (row V n k) := by
  clean_types; pointwise [res_main_v69, res_main_v59]; rfl
/-- A box's centre in cells, down. -/
theorem v73_apply : res_main_v73 V (ix2 n k) = Region.gy (row V n k) := by
  clean_types; pointwise [res_main_v73, res_main_v59]; rfl
/-- A box's width in cells. -/
theorem v77_apply : res_main_v77 V (ix2 n k) = Region.gw (row V n k) := by
  clean_types; pointwise [res_main_v77, res_main_v59]; rfl
/-- A box's height in cells. -/
theorem v81_apply : res_main_v81 V (ix2 n k) = Region.gh (row V n k) := by
  clean_types; pointwise [res_main_v81, res_main_v59]; rfl
/-- Whether a box is there. -/
theorem v85_apply : res_main_v85 V (ix2 n k) = BitVec.ofBool (decide (Region.valid (row V n k))) := by
  clean_types; pointwise [res_main_v85, res_main_v59]
  exact congrArg BitVec.ofBool (decide_eq_decide.mpr Iff.rfl)

/-- A box's centre and size. -/
def gbox (b : Region.Box) : Fin 4 → EReal := ![Region.gx b, Region.gy b, Region.gw b, Region.gh b]

/-- A box's centre and size, side by side. -/
theorem v90_apply (f : Fin 4) : res_main_v90 V (ix3 n k f) = gbox (row V n k) f := by
  clean_types
  fin_cases f
  · pointwise [res_main_v90, v69_apply]; rfl
  · pointwise [res_main_v90, v73_apply]; rfl
  · pointwise [res_main_v90, v77_apply]; rfl
  · pointwise [res_main_v90, v81_apply]; rfl

/-- A box's column. -/
theorem v271_apply : res_main_v271 V (ix2 n k) = Region.gi (row V n k) := by
  clean_types; pointwise [res_main_v271, v69_apply]; rfl
/-- A box's row of the grid. -/
theorem v273_apply : res_main_v273 V (ix2 n k) = Region.gj (row V n k) := by
  clean_types; pointwise [res_main_v273, v73_apply]; rfl

/-- The overlap of a box and an anchor. -/
theorem v262_apply (hb : Region.RealBox (row V n k)) (hs : Region.Sized (row V n k)) :
    res_main_v262 V (ix3 n k a) = Region.aiou (row V n k) a := by
  rw [← Region.aiouU_eq hb hs]
  clean_types
  pointwise [res_main_v262, res_main_v253, res_main_v185, res_main_v186, res_main_v188, res_main_v190, res_main_v192, res_main_v194,
    res_main_v196, res_main_v198, res_main_v200, res_main_v202, (cst_apply V _).1, (cst_apply V _).2, v77_apply, v81_apply, Region.overlapU]

/-- The least place of five that is marked. -/
theorem first_true : ∀ (g : Fin 5 → Bool) (b : Fin 5), g b = true → (∀ a < b, g a = false) →
    (Finset.univ : Finset (Fin 5)).fold IntOp.minsi 2147483647#32 (fun a => if g a then BitVec.ofNat 32 a.val else 5#32)
      = BitVec.ofNat 32 b.val := by
  decide +kernel

/-- The least place that holds the greatest of five values. -/
theorem first_greatest {f : Fin 5 → EReal} {b : Fin 5} (hb : (∀ a, f a ≤ f b) ∧ ∀ a < b, f a < f b) :
    (Finset.univ : Finset (Fin 5)).fold IntOp.minsi 2147483647#32 (fun a => if f a = (Finset.univ : Finset (Fin 5)).fold max
      (Ideal.ofBits FTy.f32 4286578688#32) (fun a => f a) then BitVec.ofNat 32 a.val else 5#32) = BitVec.ofNat 32 b.val := by
  have hm : (Finset.univ : Finset (Fin 5)).fold max (Ideal.ofBits FTy.f32 4286578688#32) (fun a => f a) = f b := by
    rw [show Ideal.ofBits FTy.f32 4286578688#32 = ⊥ from Region.fc_negInf]
    exact le_antisymm (Finset.sup_le fun a _ => hb.1 a) (Finset.le_sup (f := f) (Finset.mem_univ b))
  rw [hm]
  have h := first_true (fun a => decide (f a = f b)) b (by simp) fun a ha => by simpa using (hb.2 a ha).ne
  simpa using h

/-- A box's anchor: the least number that attains the greatest overlap. -/
theorem v269_apply (hb : Region.RealBox (row V n k)) (hs : Region.Sized (row V n k)) :
    res_main_v269 V (ix2 n k) = BitVec.ofNat 32 (Region.best (row V n k)).val := by
  unfold res_main_v269
  clean_types
  pointwise [v262_apply V n k _ hb hs]
  exact first_greatest (Region.best_spec _)

end Cert.ReferenceIdeal.Loss

end
-- ==== Proof.RefScatter.lean ====
/- A scatter that keeps the last update, and the reference's gathers, at an index. -/
module

public import proofs.«01_k».proof.Proof.RefBoxes
public import proofs.«01_k».proof.Proof.Fold
public import Idealize.ShloMosaic.Lib.Routing.OpsOrder
public import Idealize.ShloMosaic.Lib.Routing.OpsPair
public import Idealize.ShloMosaic.Lib.Routing.OpsSet

@[expose] public section

set_option maxRecDepth 16384

noncomputable section

namespace Cert.ReferenceIdeal.Loss

open Cert.ReferenceIdeal Cert.ReferenceIdeal.Value Idealize.ShloMosaic Idealize.ShloMosaic.Routing Classical

/-- The dimension numbers of a scatter of `N` scalars, one index each, into a vector. -/
abbrev oneDims (M N : Nat) (wf : ScatterDims.WF ⟨1, ![M]⟩ ⟨2, ![N, 1]⟩ ⟨1, ![N]⟩ [] [0] [0] 1) :
    ScatterDims ⟨1, ![M]⟩ ⟨2, ![N, 1]⟩ ⟨1, ![N]⟩ where
  updateWindowDims := []
  insertedWindowDims := [0]
  scatterDimsToOperandDims := [0]
  indexVectorDim := 1
  wf := wf

/-- Update `u` lands where its index says. -/
theorem lands {M N : Nat} (wf) (idx : IVec ⟨2, ![N, 1]⟩ 32) (u : Fin N) (i : Fin M) :
    (oneDims M N wf).resultIdx? (ix1 u) idx = some (ix1 i) ↔ (idx (ix2 u 0)).toInt = (i.val : ℤ) := by
  refine (resultIdx?_ix1 (oneDims M N wf) (ix1 u) idx i).trans ?_
  have hw : (oneDims M N wf).window (ix1 u) 0 = 0 := rfl
  have hs : (oneDims M N wf).start (ix1 u) idx 0 = (idx (ix2 u 0)).toInt := by
    refine (dif_pos (List.mem_singleton.mpr rfl)).trans (congrArg (fun j => (idx j).toInt) ?_)
    funext b
    refine Fin.ext ?_
    match b with
    | ⟨0, _⟩ => rfl
    | ⟨1, _⟩ => rfl
  rw [hw, hs]; simp

/-- A fold over the places of one length is a fold over those of an equal length. -/
theorem foldl_cast {α : Type} {K N : ℕ} (h : K = N) (g : α → Fin K → α) (g' : α → Fin N → α) (z : α)
    (hg : ∀ a k, g a k = g' a (k.cast h)) : (List.finRange K).foldl g z = (List.finRange N).foldl g' z := by
  subst h
  exact congrArg (fun f => List.foldl f z (List.finRange K)) (funext fun a => funext fun k => hg a k)

/-- The scatter holds the last update that lands at the place. -/
theorem scatter_last {M N : Nat} {α : Type} (wf) (x : (⟨1, ![M]⟩ : Shape).Idx → α) (idx : IVec ⟨2, ![N, 1]⟩ 32)
    (upd : (⟨1, ![N]⟩ : Shape).Idx → α) (i : Fin M) :
    Host.scatter (oneDims M N wf) (fun _ b => b) x idx upd (ix1 i)
    = Region.lastOr (fun u : Fin N => (idx (ix2 u 0)).toInt = (i.val : ℤ)) (fun u => upd (ix1 u)) (x (ix1 i)) := by
  rw [← scatterIn_finRange, scatterIn_at, Region.lastOr]
  refine foldl_cast (numel1 N) _ _ _ fun a k => ?_
  have e : (⟨1, ![N]⟩ : Shape).rowMajor.symm k = ix1 (k.cast (numel1 N)) := symm1 k
  rw [e]
  by_cases h : (idx (ix2 (k.cast (numel1 N)) 0)).toInt = (i.val : ℤ)
  · exact (if_pos ((lands wf idx _ i).mpr h)).trans (if_pos h).symm
  · exact (if_neg (mt (lands wf idx _ i).mp h)).trans (if_neg h).symm

/-- A flat place, computed in words. -/
theorem flat_word (q : ℕ) (c : Fin 5) (b : Region.Box) (hq : q < 320) :
    IntOp.addi (IntOp.addi (IntOp.addi (IntOp.muli (BitVec.ofNat 32 q) 3380#32) (IntOp.muli (BitVec.ofNat 32 c.val) 676#32))
      (IntOp.muli (Region.gj b) 26#32)) (Region.gi b) = BitVec.ofNat 32 (q * 3380 + c.val * 676 + Region.cell b) := by
  have hi := Region.gi_le b
  have hj := Region.gj_le b
  apply BitVec.eq_of_toNat_eq
  simp only [IntOp.addi, IntOp.muli, BitVec.toNat_add, BitVec.toNat_mul, BitVec.toNat_ofNat, Region.cell]
  omega

/-- The quotient by twenty, as it is computed from a signed quotient. -/
theorem quot20 (n : ℕ) (hn : n < 320) (d d' : BitVec 32) (hd : d = 20#32) (hd' : d' = 20#32) :
    Scalar.select (IntOp.andi
      (IntOp.cmpi .ne (if BitVec.ofNat 32 n = 0 then (0 : BitVec 32) else if (BitVec.ofNat 32 n).msb = true then -1 else 1)
        (if d = 0 then 0 else if d.msb = true then -1 else 1))
      (IntOp.cmpi .ne (IntOp.remsi ArithUnit.host (BitVec.ofNat 32 n) d) 0#32))
      (IntOp.subi (IntOp.divsi ArithUnit.host (BitVec.ofNat 32 n) d') 1#32) (IntOp.divsi ArithUnit.host (BitVec.ofNat 32 n) d')
    = BitVec.ofNat 32 (n / 20) := by
  subst hd; subst hd'
  have hr := Routing.remsi_word ArithUnit.host (a := n) (b := 20) (by omega) (by norm_num) (by norm_num)
  have hd := Routing.divsi_word ArithUnit.host (a := n) (b := 20) (by omega) (by norm_num) (by norm_num)
  rw [hr, hd, Region.quot_select]
  intro hne
  have h0 : BitVec.ofNat 32 n ≠ 0 := fun h => by
    have := congrArg BitVec.toNat h
    simp only [BitVec.toNat_ofNat, BitVec.ofNat_eq_ofNat] at this
    omega
  have hm : (BitVec.ofNat 32 n).msb = false := by
    rw [BitVec.msb_eq_decide, BitVec.toNat_ofNat]; simp; omega
  rw [if_neg h0, hm]
  decide

variable (V : Valuation τ sig (Elt Ideal))

/-- Update `u` is box `u % 10` of row `u / 10`. -/
abbrev boxAt (u : Fin 3200) : Region.Box := row V ⟨u.val / 10, by omega⟩ ⟨u.val % 10, by omega⟩

/-- The numbers of the boxes are real and no size is negative. -/
def Good : Prop := ∀ n k, Region.RealBox (row V n k) ∧ Region.Sized (row V n k)

variable {V} (hg : Good V)
include hg

/-- The flat place of a box's cell; a box that isn't there lies past the end. -/
theorem v287_apply (u : Fin 3200) : res_main_v287 V (ix1 u)
    = BitVec.ofNat 32 (if Region.valid (boxAt V u) then u.val / 10 * 3380 + (Region.best (boxAt V u)).val * 676 + Region.cell (boxAt V u) else 1081600) := by
  unfold res_main_v287
  clean_types
  pointwise [v85_apply, v269_apply V _ _ (hg _ _).1 (hg _ _).2, v271_apply, v273_apply]
  have e := flat_word (u.val / 10) (Region.best (boxAt V u)) (boxAt V u) (by omega)
  by_cases h : Region.valid (boxAt V u)
  · rw [if_pos h, if_pos h]; exact e
  · rw [if_neg h, if_neg h]; rfl

/-- The place of a box's cell among the pictures' cells; a box that isn't there lies past the end. -/
theorem v462_apply (u : Fin 3200) : res_main_v462 V (ix1 u)
    = BitVec.ofNat 32 (if Region.valid (boxAt V u) then u.val / 200 * 3380 + (Region.best (boxAt V u)).val * 676 + Region.cell (boxAt V u) else 54080) := by
  unfold res_main_v462 res_main_call7_v0 res_main_call7_v2 res_main_v449
  clean_types
  pointwise [v85_apply, v269_apply V _ _ (hg _ _).1 (hg _ _).2, v271_apply, v273_apply]
  have e := flat_word (u.val / 200) (Region.best (boxAt V u)) (boxAt V u) (by omega)
  by_cases h : Region.valid (boxAt V u)
  · have q := quot20 (u.val / 10) (by omega) (id (constantI S_ 32 20#32) ix0) (res_main_call7_v0 V ix0) rfl rfl
    rw [Nat.div_div_eq_div_mul] at q
    rw [if_pos h, if_pos h, ← e]
    exact congrArg (fun w => IntOp.addi (IntOp.addi (IntOp.addi (IntOp.muli w 3380#32)
      (IntOp.muli (BitVec.ofNat 32 (Region.best (boxAt V u)).val) 676#32))
      (IntOp.muli (Region.gj (boxAt V u)) 26#32)) (Region.gi (boxAt V u))) q
  · rw [if_neg h, if_neg h]; rfl

end Cert.ReferenceIdeal.Loss

end
-- ==== Proof.RefGather.lean ====
/- Two gathers at an index: an entry of a table at a pair of numbers, and an entry of each row at a number. -/
module

public import Idealize.ShloMosaic.PureOps
public import Idealize.ShloMosaic.Lib.ValueIdxCore

@[expose] public section

noncomputable section

namespace Cert.ReferenceIdeal.Loss

open Idealize.ShloMosaic Idealize.ShloMosaic.ValueIdx

/-- The dimension numbers of a gather of single entries of a table at pairs of numbers. -/
abbrev pairDims (A B N K : Nat) (wf : GatherDims.WF ⟨2, ![A, B]⟩ ⟨3, ![N, K, 2]⟩ ⟨2, ![N, K]⟩ [] [0, 1] [] [0, 1] [] 2 ![1, 1]) :
    GatherDims ⟨2, ![A, B]⟩ ⟨3, ![N, K, 2]⟩ ⟨2, ![N, K]⟩ where
  offsetDims := []
  collapsedSliceDims := [0, 1]
  operandBatchingDims := []
  startIndicesBatchingDims := []
  startIndexMap := [0, 1]
  indexVectorDim := 2
  sliceSizes := ![1, 1]
  wf := wf

/-- The table's entry at the pair. -/
theorem gather_pair {α : Type} {A B N K : Nat} (wf) (x : (⟨2, ![A, B]⟩ : Shape).Idx → α) (idx : IVec ⟨3, ![N, K, 2]⟩ 32)
    (n : Fin N) (k : Fin K) (a : Fin A) (b : Fin B) (ha : (idx (ix3 n k 0)).toInt = (a.val : ℤ))
    (hb : (idx (ix3 n k 1)).toInt = (b.val : ℤ)) : Host.gather (pairDims A B N K wf) x idx (ix2 n k) = x (ix2 a b) := by
  unfold Host.gather
  refine congrArg x (funext fun e => Fin.ext ?_)
  have hbatch : ∀ e, (pairDims A B N K wf).batchCoord (ix2 n k) e = 0 := fun e => GatherDims.batchCoord_eq_zero _ _ _ List.not_mem_nil
  have hmem : ∀ e : Fin 2, e ∈ (pairDims A B N K wf).startIndexMap := fun e => by
    match e with
    | ⟨0, _⟩ => exact List.mem_cons_self
    | ⟨1, _⟩ => exact List.mem_cons_of_mem _ List.mem_cons_self
  have hoff : ∀ e : Fin 2, (pairDims A B N K wf).offCoord (ix2 n k) e = 0 := fun e =>
    GatherDims.offCoord_eq_zero _ _ _ (fun h => ((GatherDims.mem_sKept _ _).mp h).1 (hmem e))
  have hcoord : ∀ (e : Fin 2) (j : Fin 2), j = e →
      (pairDims A B N K wf).siIdx (ix2 n k) ⟨List.idxOf e (pairDims A B N K wf).startIndexMap, List.idxOf_lt_length_iff.2 (hmem e)⟩ = ix3 n k j := by
    rintro e j rfl
    funext c
    refine Fin.ext ?_
    match j, c with
    | ⟨0, _⟩, ⟨0, _⟩ => rfl
    | ⟨0, _⟩, ⟨1, _⟩ => rfl
    | ⟨0, _⟩, ⟨2, _⟩ => rfl
    | ⟨1, _⟩, ⟨0, _⟩ => rfl
    | ⟨1, _⟩, ⟨1, _⟩ => rfl
    | ⟨1, _⟩, ⟨2, _⟩ => rfl
  show (pairDims A B N K wf).start (ix2 n k) idx e + (pairDims A B N K wf).batchCoord (ix2 n k) e
    + (pairDims A B N K wf).offCoord (ix2 n k) e = _
  rw [hbatch, hoff, Nat.add_zero]
  unfold GatherDims.start
  rw [dif_pos (hmem e), hcoord e e rfl]
  match e with
  | ⟨0, _⟩ =>
    show min (idx (ix3 n k 0)).toInt.toNat (A - 1) = a.val
    rw [ha, Int.toNat_natCast]; omega
  | ⟨1, _⟩ =>
    show min (idx (ix3 n k 1)).toInt.toNat (B - 1) = b.val
    rw [hb, Int.toNat_natCast]; omega

/-- The dimension numbers of a gather of one entry of each row. -/
abbrev rowDims (N C : Nat) (wf : GatherDims.WF ⟨2, ![N, C]⟩ ⟨3, ![N, 1, 1]⟩ ⟨2, ![N, 1]⟩ [] [1] [0] [1] [0] 2 ![1, 1]) :
    GatherDims ⟨2, ![N, C]⟩ ⟨3, ![N, 1, 1]⟩ ⟨2, ![N, 1]⟩ where
  offsetDims := []
  collapsedSliceDims := [1]
  operandBatchingDims := [0]
  startIndicesBatchingDims := [0]
  startIndexMap := [1]
  indexVectorDim := 2
  sliceSizes := ![1, 1]
  wf := wf

/-- The row's entry at its number. -/
theorem gather_entry {α : Type} {N C : Nat} (wf) (x : (⟨2, ![N, C]⟩ : Shape).Idx → α) (idx : IVec ⟨3, ![N, 1, 1]⟩ 32)
    (n : Fin N) (b : Fin C) (hb : (idx (ix3 n 0 0)).toInt = (b.val : ℤ)) :
    Host.gather (rowDims N C wf) x idx (ix2 n 0) = x (ix2 n b) := by
  unfold Host.gather
  refine congrArg x (funext fun e => Fin.ext ?_)
  match e with
  | ⟨0, _⟩ =>
    show (rowDims N C wf).start (ix2 n 0) idx 0 + (rowDims N C wf).batchCoord (ix2 n 0) 0 + (rowDims N C wf).offCoord (ix2 n 0) 0 = n.val
    rw [GatherDims.start_batching _ _ _ _ (List.mem_singleton.mpr rfl),
      GatherDims.offCoord_eq_zero _ _ _ (fun h => ((GatherDims.mem_sKept _ _).mp h).2 (List.mem_singleton.mpr rfl)),
      Nat.zero_add, Nat.add_zero]
    rfl
  | ⟨1, _⟩ =>
    have h1 : (1 : Fin 2) ∈ (rowDims N C wf).startIndexMap := List.mem_singleton.mpr rfl
    show (rowDims N C wf).start (ix2 n 0) idx 1 + (rowDims N C wf).batchCoord (ix2 n 0) 1 + (rowDims N C wf).offCoord (ix2 n 0) 1 = b.val
    rw [GatherDims.batchCoord_eq_zero _ _ _ (fun h => by simp at h),
      GatherDims.offCoord_eq_zero _ _ _ (fun h => ((GatherDims.mem_sKept _ _).mp h).1 (List.mem_singleton.mpr rfl)),
      Nat.add_zero]
    unfold GatherDims.start
    rw [dif_pos h1]
    have hs : (rowDims N C wf).siIdx (ix2 n 0) ⟨List.idxOf (1 : Fin 2) (rowDims N C wf).startIndexMap,
        List.idxOf_lt_length_iff.2 h1⟩ = ix3 n 0 0 := by
      funext c
      refine Fin.ext ?_
      match c with
      | ⟨0, _⟩ => rfl
      | ⟨1, _⟩ => rfl
      | ⟨2, _⟩ => rfl
    rw [hs]
    show min (idx (ix3 n 0 0)).toInt.toNat (C - 1) = b.val
    rw [hb, Int.toNat_natCast]; omega

end Cert.ReferenceIdeal.Loss

end
-- ==== Proof.RefTarget.lean ====
/- Which boxes land at a flat place, and the targets of the centre and the size there. -/
module

public import proofs.«01_k».proof.Proof.RefScatter
public import proofs.«01_k».proof.Proof.RefGather

@[expose] public section

set_option maxRecDepth 16384

noncomputable section

namespace Cert.ReferenceIdeal.Loss

open Cert.ReferenceIdeal Cert.ReferenceIdeal.Value Idealize.ShloMosaic Idealize.ShloMosaic.Routing Classical

variable (V : Valuation τ sig (Elt Ideal))

/-- The row, anchor and cell of a flat place. -/
def nI (i : Fin 1081600) : Fin 320 := ⟨i.val / 3380, by omega⟩
/-- The anchor of a flat place. -/
def aI (i : Fin 1081600) : Fin 5 := ⟨i.val / 676 % 5, by omega⟩
/-- The cell of a flat place. -/
def sI (i : Fin 1081600) : Fin 676 := ⟨i.val % 676, by omega⟩

/-- The places of the boxes, as the scatters take them. -/
def places : S3200x1.Idx → BitVec 32 :=
  broadcastInDim S3200x1 ![0] Gen.bcast_S3200_S3200x1_0 (select (cmpi .slt (res_main_v287 V) (broadcastInDim S3200 ![] Gen.bcast_S_S3200 (constantI S_ 32 0#32))) (addi (res_main_v287 V) (broadcastInDim S3200 ![] Gen.bcast_S_S3200 (constantI S_ 32 1081600#32))) (res_main_v287 V))

/-- A box's number among all. -/
def boxNo (n : Fin 320) (k : Fin 10) : Fin 3200 := ⟨n.val * 10 + k.val, by omega⟩

/-- Box `k` of row `n` by its number among all. -/
theorem boxAt_boxNo (n : Fin 320) (k : Fin 10) : boxAt V (boxNo n k) = row V n k := by
  have h1 : (⟨(boxNo n k).val / 10, by have := (boxNo n k).isLt; omega⟩ : Fin 320) = n := Fin.ext (by show (n.val * 10 + k.val) / 10 = n.val; omega)
  have h2 : (⟨(boxNo n k).val % 10, by omega⟩ : Fin 10) = k := Fin.ext (by show (n.val * 10 + k.val) % 10 = k.val; omega)
  show row V ⟨(boxNo n k).val / 10, _⟩ ⟨(boxNo n k).val % 10, _⟩ = _
  rw [h1, h2]

/-- A small number's word, read as an integer. -/
theorem toInt_nat (m : ℕ) (hm : m < 2147483648) : (BitVec.ofNat 32 m).toInt = (m : ℤ) := by
  rw [BitVec.toInt_eq_toNat_cond, BitVec.toNat_ofNat]
  split <;> omega

variable {V} (hg : Good V)
include hg

/-- The place of a box's cell as the scatters take it: none is negative, so none is moved. -/
theorem places_apply (u : Fin 3200) : places V (ix2 u 0)
    = BitVec.ofNat 32 (if Region.valid (boxAt V u) then u.val / 10 * 3380 + (Region.best (boxAt V u)).val * 676 + Region.cell (boxAt V u) else 1081600) := by
  have hc := Region.cell_lt (boxAt V u)
  rw [← v287_apply hg]
  unfold places
  clean_types
  pointwise [v287_apply hg]
  rw [Region.slt_zero _ (by split <;> omega)]
  rfl

/-- Box `u` lands at place `i` when it is of that row and belongs to that cell. -/
theorem lands_iff (u : Fin 3200) (i : Fin 1081600) :
    (places V (ix2 u 0)).toInt = (i.val : ℤ) ↔ u.val / 10 = (nI i).val ∧ Region.Hit (boxAt V u) (aI i) (sI i) := by
  have hc := Region.cell_lt (boxAt V u)
  rw [places_apply hg, toInt_nat _ (by split <;> omega), Nat.cast_inj, Region.Hit, Fin.ext_iff]
  by_cases h : Region.valid (boxAt V u)
  · rw [if_pos h]
    simp only [h, true_and, nI, aI, sI]
    omega
  · rw [if_neg h]
    simp only [h, false_and, and_false, iff_false]
    omega

/-- A scatter by the boxes' places, at a place: the value of the row's last box that belongs to the cell. -/
theorem scatter_row {α : Type} (x : S1081600.Idx → α) (upd : S3200.Idx → α) (i : Fin 1081600) :
    Host.scatter scatter_S1081600_S3200x1_S3200_n_0_0_1 (fun _ b => b) x (places V) upd (ix1 i)
      = Region.lastOr (fun k => Region.Hit (row V (nI i) k) (aI i) (sI i)) (fun k => upd (ix1 (boxNo (nI i) k))) (x (ix1 i)) := by
  refine (scatter_last _ x (places V) upd i).trans ?_
  refine Region.lastOr_map (x (ix1 i)) (boxNo (nI i)) ?_ ?_ ?_ (fun _ _ => rfl)
  · intro k k' h
    have h' : k.val < k'.val := h
    show (nI i).val * 10 + k.val < (nI i).val * 10 + k'.val
    omega
  · intro k hk
    refine (lands_iff hg _ i).mpr ⟨?_, ?_⟩
    · show ((nI i).val * 10 + k.val) / 10 = _; omega
    · rw [boxAt_boxNo]; exact hk
  · intro u hu
    obtain ⟨h1, h2⟩ := (lands_iff hg u i).mp hu
    have he : boxNo (nI i) ⟨u.val % 10, by omega⟩ = u := Fin.ext (by show (nI i).val * 10 + u.val % 10 = u.val; omega)
    exact ⟨_, he, by rw [← boxAt_boxNo, he]; exact h2⟩

/-- The same, when the updates are a number of the box. -/
theorem scatter_target (x : S1081600.Idx → EReal) (upd : S3200.Idx → EReal) (i : Fin 1081600) (v : Region.Box → EReal) (z : EReal) (hz : x (ix1 i) = z)
    (hv : ∀ u : Fin 3200, u.val / 10 = (nI i).val → Region.Hit (boxAt V u) (aI i) (sI i) → upd (ix1 u) = v (boxAt V u)) :
    Host.scatter scatter_S1081600_S3200x1_S3200_n_0_0_1 (fun _ b => b) x (places V) upd (ix1 i)
      = Region.target (row V (nI i)) (aI i) (sI i) v z :=
  hz ▸ (scatter_row hg x upd i).trans (Region.lastOr_congr _ (fun _ => Iff.rfl) fun k hk => by
    have h := hv (boxNo (nI i) k) (by show ((nI i).val * 10 + k.val) / 10 = _; omega)
    rw [boxAt_boxNo] at h
    exact h hk)

omit hg in
/-- A flat place's row and column of the grid. -/
theorem flat_y (i : Fin 1081600) : i.val / 26 % 26 = (sI i).val / 26 := by show _ = i.val % 676 / 26; omega
omit hg in
/-- A flat place's column. -/
theorem flat_x (i : Fin 1081600) : i.val % 26 = (sI i).val % 26 := by show _ = i.val % 676 % 26; omega

omit hg in
/-- The word of one. -/
theorem one_word : Ideal.ofBits .f32 0x3F800000#32 = 1 := by
  simp [Ideal.ofBits, Ideal.ieee, -EReal.coe_mul]; norm_num

omit hg in
/-- The word of zero. -/
theorem zero_word : Ideal.ofBits .f32 0x00000000#32 = 0 := by
  simp [Ideal.ofBits, Ideal.ieee, -EReal.coe_mul]

omit hg in
/-- The mask of the coordinates is one everywhere. -/
theorem ones_mul (i : Fin 1081600) (x : EReal) : (id (res_main_v439 V (ix1 i)) : EReal) * x = x := by
  have h : (id (res_main_v439 V (ix1 i)) : EReal) = 1 := one_word
  rw [h, one_mul]

/-- The reference's difference of the centre, across, at a flat place. -/
theorem v496_apply (i : Fin 1081600) :
    res_main_v496 V (ix1 i) = Region.dx (row V (nI i)) (cellAt V (nI i) (aI i) (sI i)) (aI i) (sI i) := by
  have h := v8_apply V (nI i) (aI i) (sI i) ⟨i.val / 26 % 26, by omega⟩ ⟨i.val % 26, by omega⟩ (flat_y i) (flat_x i)
  rw [Region.dx, ← h]
  unfold res_main_v496
  clean_types
  pointwise
  refine (ones_mul i _).trans (congrArg₂ (fun a b : EReal => a - b) rfl (scatter_target hg _ _ i Region.tx _ rfl fun u _ _ => ?_))
  pointwise [v69_apply, v271_apply]
  rfl

/-- The reference's difference of the centre, down, at a flat place. -/
theorem v501_apply (i : Fin 1081600) :
    res_main_v501 V (ix1 i) = Region.dy (row V (nI i)) (cellAt V (nI i) (aI i) (sI i)) (aI i) (sI i) := by
  have h := v16_apply V (nI i) (aI i) (sI i) ⟨i.val / 26 % 26, by omega⟩ ⟨i.val % 26, by omega⟩ (flat_y i) (flat_x i)
  rw [Region.dy, ← h]
  unfold res_main_v501
  clean_types
  pointwise
  refine (ones_mul i _).trans (congrArg₂ (fun a b : EReal => a - b) rfl (scatter_target hg _ _ i Region.ty _ rfl fun u _ _ => ?_))
  pointwise [v73_apply, v273_apply]
  rfl

omit hg in
/-- A small number isn't negative, so nothing is added to it. -/
theorem keep (m : ℕ) (c : BitVec 32) (hm : m < 2147483648) :
    Scalar.select (IntOp.cmpi .slt (BitVec.ofNat 32 m) 0#32) (IntOp.addi (BitVec.ofNat 32 m) c) (BitVec.ofNat 32 m)
      = BitVec.ofNat 32 m := by
  rw [Region.slt_zero _ hm]; rfl

/-- The pairs of numbers at which a box's anchor is looked up: the best anchor, and `c`. -/
def pairsAt (c : BitVec 32) : S320x10x2.Idx → BitVec 32 :=
  concatenate S320x10x2 2 [⟨S320x10x1, (broadcastInDim S320x10x1 ![0, 1] Gen.bcast_S320x10_S320x10x1_0_1 (select (cmpi .slt (res_main_v269 V) (broadcastInDim S320x10 ![] Gen.bcast_S_S320x10 (constantI S_ 32 0#32))) (addi (res_main_v269 V) (broadcastInDim S320x10 ![] Gen.bcast_S_S320x10 (constantI S_ 32 5#32))) (res_main_v269 V)))⟩, ⟨S320x10x1, (broadcastInDim S320x10x1 ![0, 1] Gen.bcast_S320x10_S320x10x1_0_1 (id (broadcastInDim S320x10 ![] Gen.bcast_S_S320x10 (constantI S_ 32 c))))⟩] Gen.concatenates_S320x10x1_S320x10x1_S320x10x2_d2

/-- The anchor's size, looked up at a box's best anchor. -/
theorem anchor_apply (n : Fin 320) (k : Fin 10) (f : Fin 2) :
    Host.gather gather_S5x2_S320x10x2_S320x10_n_01_n_n_01_2_11 (res_main_cst V) (pairsAt (V := V) (BitVec.ofNat 32 f.val)) (ix2 n k)
      = res_main_cst V (ix2 (Region.best (row V n k)) f) := by
  refine gather_pair _ (res_main_cst V) _ n k _ f ?_ ?_
  · refine (congrArg BitVec.toInt (?_ : _ = BitVec.ofNat 32 (Region.best (row V n k)).val)).trans (toInt_nat _ (by omega))
    unfold pairsAt
    clean_types
    pointwise [v269_apply V _ _ (hg _ _).1 (hg _ _).2]
    exact keep _ _ (by omega)
  · refine (congrArg BitVec.toInt (?_ : _ = BitVec.ofNat 32 f.val)).trans (toInt_nat _ (by omega))
    unfold pairsAt
    clean_types
    pointwise
    rfl

/-- The reference's difference of the width's logarithm at a flat place. -/
theorem v506_apply (i : Fin 1081600) :
    res_main_v506 V (ix1 i) = Region.dw (row V (nI i)) (cellAt V (nI i) (aI i) (sI i)) (aI i) (sI i) := by
  have h := v18_apply V (nI i) (aI i) (sI i) ⟨i.val / 26 % 26, by omega⟩ ⟨i.val % 26, by omega⟩ (flat_y i) (flat_x i)
  rw [Region.dw, ← h]
  unfold res_main_v506
  clean_types
  pointwise
  refine (ones_mul i _).trans (congrArg₂ (fun a b : EReal => a - b) rfl (scatter_target hg _ _ i Region.tw 0 zero_word fun u _ _ => ?_))
  rw [Region.tw, ← (cst_apply V _).1, ← v77_apply, ← anchor_apply hg]
  pointwise
  rfl

/-- The reference's difference of the height's logarithm at a flat place. -/
theorem v511_apply (i : Fin 1081600) :
    res_main_v511 V (ix1 i) = Region.dh (row V (nI i)) (cellAt V (nI i) (aI i) (sI i)) (aI i) (sI i) := by
  have h := v20_apply V (nI i) (aI i) (sI i) ⟨i.val / 26 % 26, by omega⟩ ⟨i.val % 26, by omega⟩ (flat_y i) (flat_x i)
  rw [Region.dh, ← h]
  unfold res_main_v511
  clean_types
  pointwise
  refine (ones_mul i _).trans (congrArg₂ (fun a b : EReal => a - b) rfl (scatter_target hg _ _ i Region.th 0 zero_word fun u _ _ => ?_))
  rw [Region.th, ← (cst_apply V _).2, ← v81_apply, ← anchor_apply hg]
  pointwise
  rfl

end Cert.ReferenceIdeal.Loss

end
-- ==== Proof.RefOverlap.lean ====
/- The overlaps of each predicted box with the boxes of its row, the greatest of them, and whether it is small. -/
module

public import proofs.«01_k».proof.Proof.RefTarget

@[expose] public section

set_option maxRecDepth 16384

noncomputable section

namespace Cert.ReferenceIdeal.Loss

open Cert.ReferenceIdeal Cert.ReferenceIdeal.Value Idealize.ShloMosaic Idealize.ShloMosaic.Routing Classical

variable {V : Valuation τ sig (Elt Ideal)}

variable (V) in
/-- The numbers of the predictions are real. -/
def RealCells : Prop := ∀ n a s, Region.RealCell (cellAt V n a s)

/-! ## Every predicted box against every box of its row -/

variable (V) in
/-- The overlaps of the predicted boxes and the row's boxes. -/
def overlaps : FVec Ideal S320x10x3380 .f32 :=
  Host.divf (res_main_v159 V) (maximumf (subf (addf (broadcastInDim S320x10x3380 ![0, 1, 2] Gen.bcast_S320x1x3380_S320x10x3380_0_1_2 (mulf (res_main_v98 V) (res_main_v100 V))) (broadcastInDim S320x10x3380 ![0, 1, 2] Gen.bcast_S320x10x1_S320x10x3380_0_1_2 (mulf (res_main_v106 V) (res_main_v108 V)))) (res_main_v159 V)) (broadcastInDim S320x10x3380 ![] Gen.bcast_S_S320x10x3380 (constant S_ .f32 0x2EDBE6FF#32)))

/-- The overlap of a predicted box and a box of its row. -/
theorem overlaps_apply (hg : Good V) (ho : RealCells V) (n : Fin 320) (k : Fin 10) (p : Fin 3380) :
    overlaps V (ix3 n k p) = Region.iou (cellAt V n (aOf p) (sOf p)) (aOf p) (sOf p) (row V n k) := by
  rw [← Region.iouU_eq (ho n _ _) _ _ (hg n k).1, ← v58_x, ← v58_y, ← v58_w, ← v58_h]
  unfold overlaps
  clean_types
  pointwise [res_main_v159, res_main_v94, res_main_v96, res_main_v98, res_main_v100, res_main_v102, res_main_v104, res_main_v106,
    res_main_v108, res_main_v91, res_main_v92, v90_apply, Region.overlapU]
  rfl

/-- The greatest along the middle axis. -/
theorem reduce_mid {N K M : ℕ} (X : FVec Ideal ⟨3, ![N, K, M]⟩ .f32) (h : (⟨3, ![N, K, M]⟩ : Shape).ReducesTo [1] ⟨2, ![N, M]⟩)
    (hu : 0 < S_.numel) (n : Fin N) (p : Fin M) :
    Host.reduce FloatOps.maximumf X (constant S_ .f32 0xFF800000#32) h hu (ix2 n p)
      = Finset.univ.sup fun k : Fin K => (X (ix3 n k p) : EReal) := by
  have hs : ∀ g : Fin K → EReal, Finset.univ.fold max (Ideal.ofBits FTy.f32 4286578688#32) g = Finset.univ.sup g := fun g => by
    rw [show Ideal.ofBits FTy.f32 4286578688#32 = ⊥ from Region.fc_negInf]; rfl
  rw [← hs]
  clean_types
  pointwise

/-- The overlap where the box is there, zero where it isn't. -/
theorem masked_apply (X : FVec Ideal S320x10x3380 .f32) (n : Fin 320) (k : Fin 10) (p : Fin 3380) :
    select (broadcastInDim S320x10x3380 ![0, 1, 2] Gen.bcast_S320x10x1_S320x10x3380_0_1_2 (broadcastInDim S320x10x1 ![0, 1] Gen.bcast_S320x10_S320x10x1_0_1 (res_main_v85 V))) X (broadcastInDim S320x10x3380 ![] Gen.bcast_S_S320x10x3380 (id (constant S_ .f32 0x00000000#32))) (ix3 n k p)
      = if Region.valid (row V n k) then (X (ix3 n k p) : EReal) else 0 := by
  clean_types
  pointwise [v85_apply]
  by_cases hv : Region.valid (row V n k)
  · rw [if_pos hv, if_pos hv]
  · rw [if_neg hv, if_neg hv]; exact zero_word

/-- Zero where a number exceeds three fifths, one elsewhere. -/
def small (Y : FVec Ideal S320x3380 .f32) : FVec Ideal S320x3380 .f32 :=
  select (cmpf .ogt Y (broadcastInDim S320x3380 ![] Gen.bcast_S_S320x3380 (constant S_ .f32 0x3F19999A#32))) (broadcastInDim S320x3380 ![] Gen.bcast_S_S320x3380 (constant S_ .f32 0x00000000#32)) (broadcastInDim S320x3380 ![] Gen.bcast_S_S320x3380 (constant S_ .f32 0x3F800000#32))

/-- Zero or one, as the number exceeds three fifths or not. -/
theorem small_apply (Y : FVec Ideal S320x3380 .f32) (n : Fin 320) (p : Fin 3380) :
    small Y (ix2 n p) = if Region.fc 0x3F19999A#32 < (Y (ix2 n p) : EReal) then (0 : EReal) else 1 := by
  unfold small
  clean_types
  pointwise

variable (V) in
/-- The overlap where the box is there, zero where it isn't. -/
def masked (X : FVec Ideal S320x10x3380 .f32) : FVec Ideal S320x10x3380 .f32 :=
  select (broadcastInDim S320x10x3380 ![0, 1, 2] Gen.bcast_S320x10x1_S320x10x3380_0_1_2 (broadcastInDim S320x10x1 ![0, 1] Gen.bcast_S320x10_S320x10x1_0_1 (res_main_v85 V))) X (broadcastInDim S320x10x3380 ![] Gen.bcast_S_S320x10x3380 (id (constant S_ .f32 0x00000000#32)))

variable (V) in
/-- The greatest of the overlaps with the row's boxes. -/
def greatest (X : FVec Ideal S320x10x3380 .f32) : FVec Ideal S320x3380 .f32 :=
  Host.reduce FloatOps.maximumf (masked V X) (constant S_ .f32 0xFF800000#32) Gen.reducesTo_S320x10x3380_S320x3380_d1 Gen.h_S_

/-- The greatest overlap with the row's boxes that are there. -/
theorem greatest_apply (X : FVec Ideal S320x10x3380 .f32) (n : Fin 320) (p : Fin 3380) :
    greatest V X (ix2 n p) = Finset.univ.sup (fun k : Fin 10 => if Region.valid (row V n k) then (X (ix3 n k p) : EReal) else 0) :=
  (reduce_mid (masked V X) Gen.reducesTo_S320x10x3380_S320x3380_d1 Gen.h_S_ n p).trans
    (Finset.sup_congr rfl fun k _ => masked_apply X n k p)

end Cert.ReferenceIdeal.Loss

end
-- ==== Proof.RefConf.lean ====
/- The overlap of each box with the predicted box of its own cell, and the term of the confidence. -/
module

public import proofs.«01_k».proof.Proof.RefOverlap

@[expose] public section

set_option maxRecDepth 16384

noncomputable section

namespace Cert.ReferenceIdeal.Loss

open Cert.ReferenceIdeal Cert.ReferenceIdeal.Value Idealize.ShloMosaic Idealize.ShloMosaic.Routing Classical

variable {V : Valuation τ sig (Elt Ideal)}

/-! ## A box against the predicted box of its cell -/

/-- A box that lands at a place has that place's number. -/
theorem place_of_hit (hg : Good V) (u : Fin 3200) (i : Fin 1081600) (hn : u.val / 10 = (nI i).val)
    (hh : Region.Hit (boxAt V u) (aI i) (sI i)) : res_main_v287 V (ix1 u) = BitVec.ofNat 32 i.val := by
  rw [v287_apply hg, if_pos hh.1, hh.2.1, hh.2.2, hn]
  congr 1
  simp only [nI, aI, sI]
  omega

/-- A flat place is never past the last one. -/
theorem least_kept (i : Fin 1081600) : IntOp.minsi (BitVec.ofNat 32 i.val) 1081599#32 = BitVec.ofNat 32 i.val := by
  have h1 := toInt_nat i.val (by omega)
  have h2 : (1081599#32).toInt = 1081599 := rfl
  unfold IntOp.minsi BitVec.slt
  rw [h1, h2]
  by_cases h : i.val = 1081599
  · rw [h]; rfl
  · rw [if_pos (by simp; omega)]

/-- The predicted box looked up at the cell a box belongs to. -/
theorem v335_apply (hg : Good V) (u : Fin 3200) (i : Fin 1081600) (hn : u.val / 10 = (nI i).val)
    (hh : Region.Hit (boxAt V u) (aI i) (sI i)) (f : Fin 4) :
    res_main_v335 V (ix2 u f) = pbox (cellAt V (nI i) (aI i) (sI i)) (aI i) (sI i) f := by
  have ha : aOf ⟨i.val % 3380, by omega⟩ = aI i := Fin.ext (by simp only [aOf, aI]; omega)
  have hs : sOf ⟨i.val % 3380, by omega⟩ = sI i := Fin.ext (by simp only [sOf, sI]; omega)
  have h := v58_apply V (nI i) ⟨i.val % 3380, by omega⟩ f
  rw [ha, hs] at h
  rw [← h]
  unfold res_main_v335
  refine (gather_row _ rfl rfl rfl rfl rfl _ _ u f i ?_ (by norm_num)).trans ?_
  · have hp := place_of_hit hg u i hn hh
    clean_types
    pointwise [res_main_v328, hp]
    rw [least_kept]
    exact keep _ _ (by omega)
  · clean_types
    pointwise
    rfl

/-- The overlap of a box and the predicted box of its cell. -/
theorem v391_iou (hg : Good V) (ho : RealCells V) (u : Fin 3200) (i : Fin 1081600) (hn : u.val / 10 = (nI i).val)
    (hh : Region.Hit (boxAt V u) (aI i) (sI i)) :
    Host.divf (F := Ideal) (φ := .f32) (res_main_v391 V) (maximumf (subf (addf (mulf (res_main_v342 V) (res_main_v344 V)) (mulf (res_main_v350 V) (res_main_v352 V))) (res_main_v391 V)) (broadcastInDim S3200 ![] Gen.bcast_S_S3200 (constant S_ .f32 0x2EDBE6FF#32))) (ix1 u)
      = Region.iou (cellAt V (nI i) (aI i) (sI i)) (aI i) (sI i) (boxAt V u) := by
  rw [← Region.iouU_swap (ho (nI i) _ _) _ _ (hg _ _).1]
  clean_types
  pointwise [res_main_v391, res_main_v338, res_main_v340, res_main_v342, res_main_v344, res_main_v346, res_main_v348, res_main_v350,
    res_main_v352, res_main_v336, v90_apply, v335_apply hg u i hn hh, Region.overlapU]
  rfl

/-! ## The confidence -/

variable (V) in
/-- The weights of the confidences. -/
def weights : FVec Ideal S1081600 .f32 :=
  Host.scatter scatter_S1081600_S3200x1_S3200_n_0_0_1 (fun _ b => b) (shapeCast _ (small (greatest V (overlaps V))) Gen.shapeCasts_S320x3380_S1081600)
    (places V) (broadcastInDim S3200 ![] Gen.bcast_S_S3200 (constant (F := Ideal) S_ .f32 0x40A00000#32))

/-- The reference's weight of the confidence at a flat place. -/
theorem weight_apply (hg : Good V) (ho : RealCells V) (i : Fin 1081600) :
    weights V (ix1 i) = Region.weight (row V (nI i)) (cellAt V (nI i) (aI i) (sI i)) (aI i) (sI i) := by
  have ha : aOf ⟨i.val % 3380, by omega⟩ = aI i := Fin.ext (by simp only [aOf, aI]; omega)
  have hs : sOf ⟨i.val % 3380, by omega⟩ = sI i := Fin.ext (by simp only [sOf, sI]; omega)
  have hm := greatest_apply (V := V) (overlaps V) (nI i) ⟨i.val % 3380, by omega⟩
  rw [Finset.sup_congr rfl fun k _ => by rw [overlaps_apply hg ho, ha, hs]] at hm
  have hx : shapeCast S1081600 (small (greatest V (overlaps V))) Gen.shapeCasts_S320x3380_S1081600 (ix1 i)
      = small (greatest V (overlaps V)) (ix2 (nI i) ⟨i.val % 3380, by omega⟩) := by
    generalize small (greatest V (overlaps V)) = X
    clean_types
    pointwise
    rfl
  refine (scatter_row hg _ _ i).trans ?_
  rw [hx, small_apply, hm, Region.weight]
  rcases Region.last_cases (fun k => Region.Hit (row V (nI i) k) (aI i) (sI i)) with h | ⟨k, hk, hl⟩
  · rw [Region.lastOr_none _ _ h, if_neg (not_exists.mpr h)]
    rfl
  · rw [Region.lastOr_last _ _ k hk hl, if_pos ⟨k, hk⟩]
    rfl

variable (V) in
/-- The overlaps of the boxes with the predicted boxes of their cells. -/
def ownIou : FVec Ideal S3200 .f32 :=
  Host.divf (res_main_v391 V) (maximumf (subf (addf (mulf (res_main_v342 V) (res_main_v344 V)) (mulf (res_main_v350 V) (res_main_v352 V))) (res_main_v391 V)) (broadcastInDim S3200 ![] Gen.bcast_S_S3200 (constant S_ .f32 0x2EDBE6FF#32)))

variable (V) in
/-- The targets of the confidences. -/
def confTarget : FVec Ideal S1081600 .f32 :=
  Host.scatter scatter_S1081600_S3200x1_S3200_n_0_0_1 (fun _ b => b) (broadcastInDim S1081600 ![] Gen.bcast_S_S1081600 (constant (F := Ideal) S_ .f32 0x00000000#32))
    (places V) (ownIou V)

/-- The reference's target for the confidence at a flat place. -/
theorem confTarget_apply (hg : Good V) (ho : RealCells V) (i : Fin 1081600) : confTarget V (ix1 i)
    = Region.target (row V (nI i)) (aI i) (sI i) (Region.iou (cellAt V (nI i) (aI i) (sI i)) (aI i) (sI i)) 0 :=
  scatter_target hg _ _ i _ 0 zero_word fun u hn hh => v391_iou hg ho u i hn hh

variable (V) in
/-- The predicted confidences. -/
def conf : FVec Ideal S1081600 .f32 :=
  shapeCast _ (Host.divf (broadcastInDim S320x5x26x26 ![] Gen.bcast_S_S320x5x26x26 (constant S_ .f32 0x3F800000#32)) (addf (broadcastInDim S320x5x26x26 ![] Gen.bcast_S_S320x5x26x26 (constant S_ .f32 0x3F800000#32)) (Host.exp (Host.negf (shapeCast _ (extractStridedSlice S320x5x1x26x26 ![0, 0, 4, 0, 0] (res_main_v0 V) Gen.slices_S320x5x6x26x26_S320x5x1x26x26_0_0_4_0_0) Gen.shapeCasts_S320x5x1x26x26_S320x5x26x26))))) Gen.shapeCasts_S320x5x26x26_S1081600

/-- The confidence at a flat place. -/
theorem conf_apply (i : Fin 1081600) : conf V (ix1 i) = Ideal.logistic (cellAt V (nI i) (aI i) (sI i) 4) := by
  have h := v0_apply V (nI i) (aI i) 4 (sI i) ⟨i.val / 26 % 26, by omega⟩ ⟨i.val % 26, by omega⟩ (flat_y i) (flat_x i)
  rw [← h]
  unfold conf
  clean_types
  pointwise
  rfl

/-- The weighted difference of the confidence and its target, as arrays. -/
theorem v517_eq : res_main_v517 V = mulf (id (weights V)) (subf (conf V) (confTarget V)) := rfl

/-- A product of a weight and a difference, at an index. -/
theorem mul_sub_at {s : Shape} (x y z : FVec Ideal s .f32) (j : s.Idx) :
    mulf (id x) (subf y z) j = (x j : EReal) * ((y j : EReal) - (z j : EReal)) := rfl

/-- The reference's weighted difference of the confidence at a flat place. -/
theorem v517_apply (hg : Good V) (ho : RealCells V) (i : Fin 1081600) :
    res_main_v517 V (ix1 i) = Region.dc (row V (nI i)) (cellAt V (nI i) (aI i) (sI i)) (aI i) (sI i) := by
  refine (congrFun v517_eq (ix1 i)).trans ((mul_sub_at _ _ _ (ix1 i)).trans ?_)
  rw [weight_apply hg ho, conf_apply, confTarget_apply hg ho, Region.dc]

end Cert.ReferenceIdeal.Loss

end
-- ==== Proof.RefReduce.lean ====
/- The reference's reductions along one axis, at an index. -/
module

public import proofs.«01_k».proof.Proof.RefTarget

@[expose] public section

set_option maxRecDepth 16384

noncomputable section

namespace Cert.ReferenceIdeal.Loss

open Cert.ReferenceIdeal Cert.ReferenceIdeal.Value Idealize.ShloMosaic Idealize.ShloMosaic.Routing Classical

/-- The greatest of a row. -/
theorem reduce_last {N K : ℕ} (X : FVec Ideal ⟨2, ![N, K]⟩ .f32) (h : (⟨2, ![N, K]⟩ : Shape).ReducesTo [1] ⟨1, ![N]⟩)
    (hu : 0 < S_.numel) (n : Fin N) :
    Host.reduce FloatOps.maximumf X (constant S_ .f32 0xFF800000#32) h hu (ix1 n)
      = Finset.univ.sup fun k : Fin K => (X (ix2 n k) : EReal) := by
  have hs : ∀ g : Fin K → EReal, Finset.univ.fold max (Ideal.ofBits FTy.f32 4286578688#32) g = Finset.univ.sup g := fun g => by
    rw [show Ideal.ofBits FTy.f32 4286578688#32 = ⊥ from Region.fc_negInf]; rfl
  rw [← hs]
  clean_types
  pointwise

/-- The sum of a row. -/
theorem sum_last {N K : ℕ} (X : FVec Ideal ⟨2, ![N, K]⟩ .f32) (h : (⟨2, ![N, K]⟩ : Shape).ReducesTo [1] ⟨1, ![N]⟩)
    (hu : 0 < S_.numel) (n : Fin N) :
    Host.reduceAdd X (constant S_ .f32 0x00000000#32) h hu (ix1 n) = ∑ k : Fin K, (X (ix2 n k) : EReal) := by
  clean_types
  pointwise

/-- The sum of a vector. -/
theorem sum_all {N : ℕ} (X : FVec Ideal ⟨1, ![N]⟩ .f32) (h : (⟨1, ![N]⟩ : Shape).ReducesTo [0] S_)
    (hu : 0 < S_.numel) (j : S_.Idx) :
    Host.reduceAdd X (constant S_ .f32 0x00000000#32) h hu j = ∑ k : Fin N, (X (ix1 k) : EReal) := by
  clean_types
  pointwise

/-- A conjunction of one condition that holds. -/
theorem and_last {N : ℕ} (X : IVec ⟨3, ![N, 1, 1]⟩ 1) (h : (⟨3, ![N, 1, 1]⟩ : Shape).ReducesTo [2] ⟨2, ![N, 1]⟩)
    (hu : 0 < S_.numel) (n : Fin N) (hX : X (ix3 n 0 0) = 1#1) :
    Host.reduce IntOp.andi X (constantI S_ 1 1#1) h hu (ix2 n 0) = 1#1 := by
  clean_types
  pointwise
  rw [show (Finset.univ : Finset (Fin 1)) = {0} from rfl, Finset.fold_singleton, hX]
  rfl

end Cert.ReferenceIdeal.Loss

end
-- ==== Proof.RefClass.lean ====
/- The reference's class loss at a place: which boxes land there, the label, and the logarithm of the softmax. -/
module

public import proofs.«01_k».proof.Proof.RefReduce
public import proofs.«01_k».proof.Proof.Loss

@[expose] public section

set_option maxRecDepth 16384

noncomputable section

namespace Cert.ReferenceIdeal.Loss

open Cert.ReferenceIdeal Cert.ReferenceIdeal.Value Idealize.ShloMosaic Idealize.ShloMosaic.Routing Classical

variable (V : Valuation τ sig (Elt Ideal))

/-- The group of twenty rows, the anchor and the cell of a flat place. -/
def bC (i : Fin 54080) : Fin 16 := ⟨i.val / 3380, by omega⟩
/-- The anchor of a picture's place. -/
def aC (i : Fin 54080) : Fin 5 := ⟨i.val / 676 % 5, by omega⟩
/-- The cell of a picture's place. -/
def sC (i : Fin 54080) : Fin 676 := ⟨i.val % 676, by omega⟩

/-- The places of the boxes, as the class scatters take them. -/
def placesC : S3200x1.Idx → BitVec 32 :=
  broadcastInDim S3200x1 ![0] Gen.bcast_S3200_S3200x1_0 (select (cmpi .slt (res_main_v462 V) (broadcastInDim S3200 ![] Gen.bcast_S_S3200 (constantI S_ 32 0#32))) (addi (res_main_v462 V) (broadcastInDim S3200 ![] Gen.bcast_S_S3200 (constantI S_ 32 54080#32))) (res_main_v462 V))

/-- A box's number among all, by its group. -/
def boxNoC (b : Fin 16) (u : Fin 200) : Fin 3200 := ⟨b.val * 200 + u.val, by omega⟩

/-- Box `u` of a group. -/
abbrev boxC (b : Fin 16) (u : Fin 200) : Region.Box := Region.rowsB (T V) b ⟨u.val / 10, by omega⟩ ⟨u.val % 10, by omega⟩

/-- Box `u` of picture `b` by its number among all. -/
theorem boxAt_boxNoC (b : Fin 16) (u : Fin 200) : boxAt V (boxNoC b u) = boxC V b u := by
  have h1 : (⟨(boxNoC b u).val / 10, by have := (boxNoC b u).isLt; omega⟩ : Fin 320) = Region.rowIn b ⟨u.val / 10, by omega⟩ :=
    Fin.ext (by show (b.val * 200 + u.val) / 10 = b.val * 20 + u.val / 10; omega)
  have h2 : (⟨(boxNoC b u).val % 10, by omega⟩ : Fin 10) = ⟨u.val % 10, by omega⟩ :=
    Fin.ext (by show (b.val * 200 + u.val) % 10 = u.val % 10; omega)
  show row V ⟨(boxNoC b u).val / 10, _⟩ ⟨(boxNoC b u).val % 10, _⟩ = _
  rw [h1, h2]
  rfl

variable {V} (hg : Good V)
include hg

/-- The place of a box's cell as the class scatters take it. -/
theorem placesC_apply (u : Fin 3200) : placesC V (ix2 u 0)
    = BitVec.ofNat 32 (if Region.valid (boxAt V u) then u.val / 200 * 3380 + (Region.best (boxAt V u)).val * 676 + Region.cell (boxAt V u) else 54080) := by
  have hc := Region.cell_lt (boxAt V u)
  rw [← v462_apply hg]
  unfold placesC
  clean_types
  pointwise [v462_apply hg]
  rw [Region.slt_zero _ (by split <;> omega)]
  rfl

/-- Box `u` lands at place `i` when it is of that group and belongs to that cell. -/
theorem landsC_iff (u : Fin 3200) (i : Fin 54080) :
    (placesC V (ix2 u 0)).toInt = (i.val : ℤ) ↔ u.val / 200 = (bC i).val ∧ Region.Hit (boxAt V u) (aC i) (sC i) := by
  have hc := Region.cell_lt (boxAt V u)
  rw [placesC_apply hg, toInt_nat _ (by split <;> omega), Nat.cast_inj, Region.Hit, Fin.ext_iff]
  by_cases h : Region.valid (boxAt V u)
  · rw [if_pos h]
    simp only [h, true_and, bC, aC, sC]
    omega
  · rw [if_neg h]
    simp only [h, false_and, and_false, iff_false]
    omega

/-- A class scatter at a place: the value of the group's last box that belongs to the cell. -/
theorem scatter_group {α : Type} (x : S54080.Idx → α) (upd : S3200.Idx → α) (i : Fin 54080) :
    Host.scatter scatter_S54080_S3200x1_S3200_n_0_0_1 (fun _ b => b) x (placesC V) upd (ix1 i)
      = Region.lastOr (fun u => Region.Hit (boxC V (bC i) u) (aC i) (sC i)) (fun u => upd (ix1 (boxNoC (bC i) u))) (x (ix1 i)) := by
  refine (scatter_last _ x (placesC V) upd i).trans ?_
  refine Region.lastOr_map (x (ix1 i)) (boxNoC (bC i)) ?_ ?_ ?_ (fun _ _ => rfl)
  · intro k k' h
    have h' : k.val < k'.val := h
    show (bC i).val * 200 + k.val < (bC i).val * 200 + k'.val
    omega
  · intro k hk
    refine (landsC_iff hg _ i).mpr ⟨?_, ?_⟩
    · show ((bC i).val * 200 + k.val) / 200 = _; omega
    · rw [boxAt_boxNoC]; exact hk
  · intro u hu
    obtain ⟨h1, h2⟩ := (landsC_iff hg u i).mp hu
    have he : boxNoC (bC i) ⟨u.val % 200, by omega⟩ = u := Fin.ext (by show (bC i).val * 200 + u.val % 200 = u.val; omega)
    exact ⟨_, he, by rw [← boxAt_boxNoC, he]; exact h2⟩

/-- Some box of the group belongs to the cell. -/
def HitC (V : Valuation τ sig (Elt Ideal)) (i : Fin 54080) : Prop :=
  ∃ r k, Region.Hit (Region.rowsB (T V) (bC i) r k) (aC i) (sC i)

omit hg in
/-- A box landed on the place exactly when a box of the picture belongs to the cell. -/
theorem hitC_iff (i : Fin 54080) : HitC V i ↔ ∃ u, Region.Hit (boxC V (bC i) u) (aC i) (sC i) := by
  constructor
  · rintro ⟨r, k, h⟩
    refine ⟨⟨r.val * 10 + k.val, by omega⟩, ?_⟩
    have h1 : (⟨(r.val * 10 + k.val) / 10, by omega⟩ : Fin 20) = r := Fin.ext (by show (r.val * 10 + k.val) / 10 = _; omega)
    have h2 : (⟨(r.val * 10 + k.val) % 10, by omega⟩ : Fin 10) = k := Fin.ext (by show (r.val * 10 + k.val) % 10 = _; omega)
    show Region.Hit (Region.rowsB (T V) (bC i) ⟨(r.val * 10 + k.val) / 10, _⟩ ⟨(r.val * 10 + k.val) % 10, _⟩) _ _
    rw [h1, h2]
    exact h
  · rintro ⟨u, h⟩
    exact ⟨_, _, h⟩

/-- The mask: one where a box belongs, zero elsewhere. -/
theorem mask_apply (i : Fin 54080) :
    Host.scatter scatter_S54080_S3200x1_S3200_n_0_0_1 (fun _ b => b) (broadcastInDim S54080 ![] Gen.bcast_S_S54080 (constant (F := Ideal) S_ .f32 0x00000000#32))
      (placesC V) (broadcastInDim S3200 ![] Gen.bcast_S_S3200 (constant (F := Ideal) S_ .f32 0x3F800000#32)) (ix1 i)
      = if HitC V i then (1 : EReal) else 0 := by
  refine (scatter_group hg _ _ i).trans ?_
  rcases Region.last_cases (fun u => Region.Hit (boxC V (bC i) u) (aC i) (sC i)) with h | ⟨k, hk, hl⟩
  · rw [Region.lastOr_none _ _ h, if_neg (fun hc => not_exists.mpr h ((hitC_iff i).mp hc))]
    exact zero_word
  · rw [Region.lastOr_last _ _ k hk hl, if_pos ((hitC_iff i).mpr ⟨k, hk⟩)]
    exact one_word

/-- The label. -/
theorem v483_apply (i : Fin 54080) : res_main_v483 V (ix2 i 0) = Region.label (Region.rowsB (T V) (bC i)) (aC i) (sC i) := by
  unfold res_main_v483
  clean_types
  pointwise
  refine (scatter_group hg _ _ i).trans (Region.lastOr_congr _ (fun _ => Iff.rfl) fun u hu => ?_)
  refine Eq.trans ?_ (congrArg Region.lab (boxAt_boxNoC V (bC i) u))
  generalize boxNoC (bC i) u = w
  clean_types
  pointwise [res_main_v59]
  rfl

end Cert.ReferenceIdeal.Loss

end
-- ==== Proof.RefSoftmax.lean ====
/- The logarithm of the softmax at the label, and the class loss at a place. -/
module

public import proofs.«01_k».proof.Proof.RefClass

@[expose] public section

set_option maxRecDepth 16384

noncomputable section

namespace Cert.ReferenceIdeal.Loss

open Cert.ReferenceIdeal Cert.ReferenceIdeal.Value Idealize.ShloMosaic Idealize.ShloMosaic.Routing Classical

variable {V : Valuation τ sig (Elt Ideal)}

/-! ## The logits -/

/-- The class numbers of a picture's cell, read from the predictions. -/
theorem v481_apply (i : Fin 54080) (j : Fin 20) :
    res_main_v481 V (ix2 i j) = Region.logitsB (O V) (bC i) (aC i) (sC i) j := by
  unfold res_main_v481
  clean_types
  pointwise
  refine (v0_apply V _ _ 5 (sC i) _ _ ?_ ?_).trans ?_
  · show i.val % 3380 / 26 % 26 = i.val % 676 / 26; omega
  · show i.val % 3380 % 26 = i.val % 676 % 26; omega
  · refine congrArg₂ (fun n a => Region.cellA (O V) n a (sC i) 5) (Fin.ext ?_) (Fin.ext ?_)
    · simp only [Region.rowIn, bC]
    · simp only [aC]; omega

/-- The numbers less their row's own. -/
def less (L : FVec Ideal S54080x20 .f32) (Y : FVec Ideal S54080 .f32) : FVec Ideal S54080x20 .f32 :=
  subf L (broadcastInDim S54080x20 ![0, 1] Gen.bcast_S54080x1_S54080x20_0_1 (broadcastInDim S54080x1 ![0] Gen.bcast_S54080_S54080x1_0 (maximumf (broadcastInDim S54080 ![] Gen.bcast_S_S54080 (constant S_ .f32 0xFF800000#32)) Y)))

/-- A row's number less the row's own. -/
theorem less_apply (L : FVec Ideal S54080x20 .f32) (Y : FVec Ideal S54080 .f32) (i : Fin 54080) (j : Fin 20) :
    less L Y (ix2 i j) = (L (ix2 i j) : EReal) - (Y (ix1 i) : EReal) := by
  have h : ∀ y : EReal, max (Ideal.ofBits FTy.f32 4286578688#32) y = y := fun y => by
    rw [show Ideal.ofBits FTy.f32 4286578688#32 = ⊥ from Region.fc_negInf]; exact max_eq_right bot_le
  refine Eq.trans ?_ (congrArg (fun y : EReal => (L (ix2 i j) : EReal) - y) (h (Y (ix1 i))))
  unfold less
  clean_types
  pointwise

/-- The logits less the greatest of the row. -/
theorem centred_apply (i : Fin 54080) (j : Fin 20) : res_main_call9_v5 V (ix2 i j)
    = Region.logitsB (O V) (bC i) (aC i) (sC i) j - Finset.univ.sup (Region.logitsB (O V) (bC i) (aC i) (sC i)) := by
  refine (less_apply (res_main_v481 V) _ i j).trans ?_
  rw [reduce_last, v481_apply]
  exact congrArg (fun g : Fin 20 → EReal => _ - Finset.univ.sup g) (funext (v481_apply i))

/-- Numbers less the logarithm of their row's own. -/
def lessLog (X : FVec Ideal S54080x20 .f32) (Y : FVec Ideal S54080 .f32) : FVec Ideal S54080x20 .f32 :=
  subf X (broadcastInDim S54080x20 ![0, 1] Gen.bcast_S54080x1_S54080x20_0_1 (Host.log (broadcastInDim S54080x1 ![0] Gen.bcast_S54080_S54080x1_0 Y)))

/-- A row's number less the logarithm of the row's own. -/
theorem lessLog_apply (X : FVec Ideal S54080x20 .f32) (Y : FVec Ideal S54080 .f32) (i : Fin 54080) (j : Fin 20) :
    lessLog X Y (ix2 i j) = (X (ix2 i j) : EReal) - Ideal.log (Y (ix1 i) : EReal) := by
  unfold lessLog
  clean_types
  pointwise

variable (V) in
/-- The logarithm of the softmax. -/
def logSoftmax : FVec Ideal S54080x20 .f32 :=
  lessLog (res_main_call9_v5 V) (Host.reduceAdd (Host.exp (res_main_call9_v5 V)) (constant S_ .f32 0x00000000#32) Gen.reducesTo_S54080x20_S54080_d1 Gen.h_S_)

/-- The logit less the greatest, less the logarithm of the sum of exponentials. -/
theorem logSoftmax_apply (i : Fin 54080) (j : Fin 20) : logSoftmax V (ix2 i j)
    = Region.logitsB (O V) (bC i) (aC i) (sC i) j - Finset.univ.sup (Region.logitsB (O V) (bC i) (aC i) (sC i))
      - Ideal.log (∑ k, Ideal.exp (Region.logitsB (O V) (bC i) (aC i) (sC i) k - Finset.univ.sup (Region.logitsB (O V) (bC i) (aC i) (sC i)))) := by
  refine (lessLog_apply (res_main_call9_v5 V) _ i j).trans ?_
  rw [sum_last, centred_apply]
  refine congrArg (fun y : EReal => _ - Ideal.log y) (Finset.sum_congr rfl fun k _ => ?_)
  rw [← centred_apply]
  rfl

/-! ## The label picks one -/

/-- The label is one of twenty. -/
theorem label_le (t : Fin 20 → Region.Row) (a : Fin 5) (s : Fin 676) : (Region.label t a s).toNat ≤ 19 := by
  unfold Region.label
  rcases Region.last_cases (fun u : Fin 200 => Region.Hit (t ⟨u.val / 10, by omega⟩ ⟨u.val % 10, by omega⟩) a s) with h | ⟨k, hk, hl⟩
  · rw [Region.lastOr_none _ _ h]; decide
  · rw [Region.lastOr_last _ _ k hk hl]; exact Region.lab_le _

variable (hg : Good V)
include hg

/-- The label, as the lookup takes it. -/
theorem pick_apply (i : Fin 54080) : res_main_call10_v5 V (ix3 i 0 0) = Region.label (Region.rowsB (T V) (bC i)) (aC i) (sC i) := by
  have hl := label_le (Region.rowsB (T V) (bC i)) (aC i) (sC i)
  unfold res_main_call10_v5
  clean_types
  pointwise [v483_apply hg]
  generalize Region.label (Region.rowsB (T V) (bC i)) (aC i) (sC i) = w at hl ⊢
  have hw : w = BitVec.ofNat 32 w.toNat := by simp
  rw [hw]
  exact keep _ _ (by omega)

variable (V) in
omit hg in
/-- The label's number in the softmax, where the label is in range. -/
def picked : FVec Ideal S54080x1 .f32 :=
  select (Host.reduce IntOp.andi (andi (cmpi .sge (res_main_call10_v5 V) (broadcastInDim S54080x1x1 ![] Gen.bcast_S_S54080x1x1 (constantI S_ 32 0#32))) (cmpi .sle (res_main_call10_v5 V) (broadcastInDim S54080x1x1 ![0, 1, 2] Gen.bcast_S1x1x1_S54080x1x1_0_1_2 (broadcastInDim S1x1x1 ![2] Gen.bcast_S1_S1x1x1_2 (constantI S1 32 19#32))))) (constantI S_ 1 1#1) Gen.reducesTo_S54080x1x1_S54080x1_d2 Gen.h_S_) (Host.gather gather_S54080x20_S54080x1x1_S54080x1_n_1_0_0_1_2_11 (logSoftmax V) (res_main_call10_v5 V)) (broadcastInDim S54080x1 ![] Gen.bcast_S_S54080x1 (constant S_ .f32 0x7FC00000#32))

omit hg in
/-- A number from 0 to 19 is in range. -/
theorem in_range (w : BitVec 32) (hw : w.toNat ≤ 19) : IntOp.andi (IntOp.cmpi .sge w 0#32) (IntOp.cmpi .sle w 19#32) = 1#1 := by
  obtain ⟨m, hm, rfl⟩ : ∃ m : ℕ, m ≤ 19 ∧ w = BitVec.ofNat 32 m := ⟨w.toNat, hw, by simp⟩
  interval_cases m <;> rfl

omit hg in
/-- A choice whose bit is one. -/
theorem select_at {s : Shape} (c : IVec s 1) (x y : FVec Ideal s .f32) (j : s.Idx) (h : c j = 1#1) : select c x y j = x j := by
  show Scalar.select (c j) (x j) (y j) = x j
  rw [h]; rfl

/-- The entry of the log-softmax at the cell's label. -/
theorem picked_apply (i : Fin 54080) : picked V (ix2 i 0)
    = logSoftmax V (ix2 i ⟨(Region.label (Region.rowsB (T V) (bC i)) (aC i) (sC i)).toNat % 20, Nat.mod_lt _ (by norm_num)⟩) := by
  have hl := label_le (Region.rowsB (T V) (bC i)) (aC i) (sC i)
  have hp := pick_apply hg i
  refine (select_at _ _ _ (ix2 i 0) (and_last _ _ _ i ?_)).trans ?_
  · clean_types
    pointwise [hp]
    exact in_range _ hl
  · refine gather_entry _ (logSoftmax V) (res_main_call10_v5 V) i _ ?_
    refine (congrArg BitVec.toInt hp).trans ?_
    generalize Region.label (Region.rowsB (T V) (bC i)) (aC i) (sC i) = w at hl ⊢
    obtain ⟨m, hm, rfl⟩ : ∃ m : ℕ, m ≤ 19 ∧ w = BitVec.ofNat 32 m := ⟨w.toNat, hl, by simp⟩
    rw [toInt_nat m (by omega)]
    show (m : ℤ) = (((BitVec.ofNat 32 m).toNat % 20 : ℕ) : ℤ)
    rw [BitVec.toNat_ofNat]
    omega

/-! ## The class loss at a place -/

omit hg in
/-- A sum less a real number, from the negative of a difference. -/
theorem neg_diff (x m : ℝ) (l : EReal) : -(((x : EReal) - m) - l) = m + l - x := by
  induction l with
  | bot => rw [← EReal.coe_sub, EReal.coe_sub_bot, EReal.neg_top]; simp
  | top => simp
  | coe l => norm_cast; ring

omit hg in
/-- The greatest of twenty real numbers is real. -/
theorem sup_real (l : Fin 20 → EReal) (hl : ∀ j, Region.IsReal (l j)) : Region.IsReal (Finset.univ.sup l) := by
  obtain ⟨j, -, hj⟩ := Finset.exists_mem_eq_sup Finset.univ ⟨0, Finset.mem_univ 0⟩ l
  rw [hj]
  exact hl j

variable (V) in
omit hg in
/-- The class losses. -/
def classLoss : FVec Ideal S54080 .f32 :=
  mulf (Host.scatter scatter_S54080_S3200x1_S3200_n_0_0_1 (fun _ b => b) (broadcastInDim S54080 ![] Gen.bcast_S_S54080 (constant (F := Ideal) S_ .f32 0x00000000#32))
      (placesC V) (broadcastInDim S3200 ![] Gen.bcast_S_S3200 (constant (F := Ideal) S_ .f32 0x3F800000#32)))
    (Host.negf (shapeCast _ (picked V) Gen.shapeCasts_S54080x1_S54080))

omit hg in
/-- A column read as a vector. -/
theorem cast_at (X : FVec Ideal S54080x1 .f32) (i : Fin 54080) :
    shapeCast S54080 X Gen.shapeCasts_S54080x1_S54080 (ix1 i) = X (ix2 i 0) := by
  clean_types
  pointwise

omit hg in
/-- A product with a negated vector, at an index. -/
theorem mul_neg_at {s : Shape} (x y : FVec Ideal s .f32) (j : s.Idx) :
    mulf x (Host.negf y) j = (x j : EReal) * -(y j : EReal) := rfl

/-- The reference's class loss at a picture's cell. -/
theorem classLoss_apply (ho : ∀ n a s, Region.RealCell (cellAt V n a s)) (i : Fin 54080) : classLoss V (ix1 i)
    = Region.cls (Region.rowsB (T V) (bC i)) (Region.logitsB (O V) (bC i) (aC i) (sC i)) (aC i) (sC i) := by
  refine (mul_neg_at _ _ (ix1 i)).trans ?_
  rw [mask_apply hg, cast_at, picked_apply hg, logSoftmax_apply, Region.cls]
  by_cases h : HitC V i
  · rw [if_pos h, one_mul]
    refine Eq.trans ?_ (if_pos h).symm
    have hr : ∀ j, Region.IsReal (Region.logitsB (O V) (bC i) (aC i) (sC i) j) := fun j => ho _ _ _ 5
    obtain ⟨m, hm⟩ := sup_real _ hr
    obtain ⟨x, hx⟩ := hr ⟨(Region.label (Region.rowsB (T V) (bC i)) (aC i) (sC i)).toNat % 20, Nat.mod_lt _ (by norm_num)⟩
    rw [hm, hx]
    exact neg_diff x m _
  · rw [if_neg h, zero_mul]
    exact (if_neg h).symm

end Cert.ReferenceIdeal.Loss

end
-- ==== Proof.RefResult.lean ====
/- The reference's result: the sums over flat places are the sums over rows, anchors and cells. -/
module

public import proofs.«01_k».proof.Proof.RefConf
public import proofs.«01_k».proof.Proof.RefSoftmax
public import Idealize.ShloMosaic.Lib.Pipeline.ValueKit.Acc

@[expose] public section

set_option maxRecDepth 16384

noncomputable section

namespace Cert.ReferenceIdeal.Loss

open Cert.ReferenceIdeal Cert.ReferenceIdeal.Value Idealize.ShloMosaic Idealize.ShloMosaic.Routing Classical

variable {V : Valuation τ sig (Elt Ideal)}

/-- A sum over flat places, by rows, anchors and cells. -/
theorem flat_sum {N B : ℕ} (hN : N = B * 3380) (F : Fin N → EReal) (f : Fin B → Fin 5 → Fin 676 → EReal)
    (h : ∀ (i : Fin N) (n : Fin B) (a : Fin 5) (s : Fin 676), n.val = i.val / 3380 → a.val = i.val / 676 % 5 → s.val = i.val % 676 →
      F i = f n a s) : ∑ i, F i = ∑ n, ∑ a, ∑ s, f n a s := by
  have h1 : ∀ (n : Fin B), ∑ p : Fin 3380, f n ⟨p.val / 676, by omega⟩ ⟨p.val % 676, by omega⟩ = ∑ a, ∑ s, f n a s := fun n =>
    Fin.sum_divmod_congr (fun p ha hs => rfl) (by norm_num)
  rw [← Finset.sum_congr rfl fun n _ => h1 n]
  refine Fin.sum_divmod_congr (f := fun n p => f n ⟨p.val / 676, by omega⟩ ⟨p.val % 676, by omega⟩) (fun i hn hp => ?_) hN
  refine h i _ _ _ rfl ?_ ?_
  · show i.val % 3380 / 676 = i.val / 676 % 5; omega
  · show i.val % 3380 % 676 = i.val % 676; omega

/-- Half of the sum of five. -/
theorem half_five (a b c d e : EReal) :
    Region.fc 0x3F000000#32 * a + Region.fc 0x3F000000#32 * b + Region.fc 0x3F000000#32 * c + Region.fc 0x3F000000#32 * d
      + Region.fc 0x3F000000#32 * e = Region.fc 0x3F000000#32 * (a + b + c + d + e) := by
  simp only [EReal.left_distrib_of_nonneg_of_ne_top Region.half_nonneg Region.half_ne_top]

/-- The sum of the squares of a term. -/
theorem square_sum (X : FVec Ideal S1081600 .f32) (f : Region.Row → Region.Cell → Fin 5 → Fin 676 → EReal)
    (h : ∀ i, X (ix1 i) = f (row V (nI i)) (cellAt V (nI i) (aI i) (sI i)) (aI i) (sI i)) (j : S_.Idx) :
    mulf (constant S_ .f32 0x3F000000#32) (Host.reduceAdd (mulf X X) (constant S_ .f32 0x00000000#32) Gen.reducesTo_S1081600_S_d0 Gen.h_S_) j
      = Region.fc 0x3F000000#32 * ∑ n, ∑ a, ∑ s, f (row V n) (cellAt V n a s) a s * f (row V n) (cellAt V n a s) a s := by
  refine congrArg (fun x : EReal => Region.fc 0x3F000000#32 * x) ((sum_all (mulf X X) _ _ j).trans ?_)
  refine flat_sum (B := 320) rfl _ (fun n a s => f (row V n) (cellAt V n a s) a s * f (row V n) (cellAt V n a s) a s) fun i n a s hn ha hs => ?_
  obtain rfl : n = nI i := Fin.ext hn
  obtain rfl : a = aI i := Fin.ext ha
  obtain rfl : s = sI i := Fin.ext hs
  exact congrArg₂ (fun x y : EReal => x * y) (h i) (h i)

/-- The sum of the class losses. -/
theorem class_sum (hg : Good V) (ho : RealCells V) (j : S_.Idx) :
    mulf (constant S_ .f32 0x3F800000#32) (Host.reduceAdd (classLoss V) (constant S_ .f32 0x00000000#32) Gen.reducesTo_S54080_S_d0 Gen.h_S_) j
      = Region.classes (O V) (T V) := by
  refine (congrArg₂ (fun x y : EReal => x * y) one_word ((sum_all (classLoss V) _ _ j).trans ?_)).trans (one_mul _)
  refine flat_sum (B := 16) rfl _ _ fun i b a s hb ha hs => ?_
  obtain rfl : b = bC i := Fin.ext hb
  obtain rfl : a = aC i := Fin.ext ha
  obtain rfl : s = sC i := Fin.ext hs
  exact classLoss_apply hg ho i

/-- The five sums of squares are the sum of the cells' squares. -/
theorem squares_eq : Region.squares (O V) (T V)
    = (∑ n, ∑ a, ∑ s, Region.dx (row V n) (cellAt V n a s) a s * Region.dx (row V n) (cellAt V n a s) a s)
      + (∑ n, ∑ a, ∑ s, Region.dy (row V n) (cellAt V n a s) a s * Region.dy (row V n) (cellAt V n a s) a s)
      + (∑ n, ∑ a, ∑ s, Region.dw (row V n) (cellAt V n a s) a s * Region.dw (row V n) (cellAt V n a s) a s)
      + (∑ n, ∑ a, ∑ s, Region.dh (row V n) (cellAt V n a s) a s * Region.dh (row V n) (cellAt V n a s) a s)
      + (∑ n, ∑ a, ∑ s, Region.dc (row V n) (cellAt V n a s) a s * Region.dc (row V n) (cellAt V n a s) a s) := by
  simp only [Region.squares, Region.sq, Finset.sum_add_distrib]

variable (V) in
/-- The reference's result. -/
def result : FVec Ideal S_ .f32 :=
  addf (addf (addf (addf (addf (mulf (constant S_ .f32 0x3F000000#32) (Host.reduceAdd (mulf (res_main_v496 V) (res_main_v496 V)) (constant S_ .f32 0x00000000#32) Gen.reducesTo_S1081600_S_d0 Gen.h_S_)) (mulf (constant S_ .f32 0x3F000000#32) (Host.reduceAdd (mulf (res_main_v501 V) (res_main_v501 V)) (constant S_ .f32 0x00000000#32) Gen.reducesTo_S1081600_S_d0 Gen.h_S_))) (mulf (constant S_ .f32 0x3F000000#32) (Host.reduceAdd (mulf (res_main_v506 V) (res_main_v506 V)) (constant S_ .f32 0x00000000#32) Gen.reducesTo_S1081600_S_d0 Gen.h_S_))) (mulf (constant S_ .f32 0x3F000000#32) (Host.reduceAdd (mulf (res_main_v511 V) (res_main_v511 V)) (constant S_ .f32 0x00000000#32) Gen.reducesTo_S1081600_S_d0 Gen.h_S_))) (mulf (constant S_ .f32 0x3F000000#32) (Host.reduceAdd (mulf (res_main_v517 V) (res_main_v517 V)) (constant S_ .f32 0x00000000#32) Gen.reducesTo_S1081600_S_d0 Gen.h_S_))) (mulf (constant S_ .f32 0x3F800000#32) (Host.reduceAdd (classLoss V) (constant S_ .f32 0x00000000#32) Gen.reducesTo_S54080_S_d0 Gen.h_S_))

/-- A sum of six, at an index. -/
theorem add_six (a b c d e f : FVec Ideal S_ .f32) (j : S_.Idx) : addf (addf (addf (addf (addf a b) c) d) e) f j
    = (a j : EReal) + (b j : EReal) + (c j : EReal) + (d j : EReal) + (e j : EReal) + (f j : EReal) := rfl

/-- The reference's result is the loss. -/
theorem result_eq (hg : Good V) (ho : RealCells V) (j : S_.Idx) : result V j = Region.loss (O V) (T V) := by
  refine (add_six _ _ _ _ _ _ j).trans ?_
  rw [square_sum _ Region.dx (v496_apply hg), square_sum _ Region.dy (v501_apply hg), square_sum _ Region.dw (v506_apply hg),
    square_sum _ Region.dh (v511_apply hg), square_sum _ Region.dc (v517_apply hg ho), class_sum hg ho, half_five, Region.loss, squares_eq]

end Cert.ReferenceIdeal.Loss

end
-- ==== Proof.RefRun.lean ====
/- The reference's run: it ends with the loss of its two inputs. -/
module

public import proofs.«01_k».proof.Proof.RefResult
public import proofs.«01_k».proof.Proof.Gen.ReferenceIdeal.Run

@[expose] public section

set_option maxRecDepth 65536

noncomputable section

namespace Cert.ReferenceIdeal.Loss

open Cert.ReferenceIdeal Cert.ReferenceIdeal.Value Idealize.ShloMosaic Idealize.ShloMosaic.TcCoe Idealize.SL.Sem Idealize.ShloMosaic.StableHlo

/-- The reference's run ends with the loss, its inputs kept. -/
theorem run (m : (ℓ : Loc nD τ sig) → Buf (Elt Ideal) ℓ) (ρ : Dev nD → PrngReg)
    (hg : ∀ c, Good (launchContents m c)) (ho : ∀ c, RealCells (launchContents m c)) :
    θ_run defs (onTc (τ := τ) (main (F := Ideal))) ⟨m, fun _ => 0, ρ⟩ fun r => ∀ c : Dev nD,
      r.2.mem ((c.tc : Thread nD τ).loc main_v525) = (fun _ => Region.loss (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ?_) (Value.run m ρ)
  obtain ⟨h1, h2, h3⟩ := h c
  refine ⟨h1.trans ?_, h2, h3⟩
  have e := funext (result_eq (hg c) (ho c))
  exact e

end Cert.ReferenceIdeal.Loss

end
-- ==== Proof.Bounds.lean ====
/- What the precondition says: every number is real, and no box has a negative width or height. -/
module

public import proofs.«01_k».proof.Defs
public import proofs.«01_k».proof.Proof.RefOverlap
public import Idealize.ShloMosaic.Lib.Pointwise.Select

@[expose] public section

set_option maxRecDepth 16384

noncomputable section

namespace Cert.Pre_finite_boxes

open Idealize.ShloMosaic

/-- The bound of the first two tests. -/
theorem top_word : Ideal.ofBits .f32 0x7F800000#32 = ⊤ := by
  simp [Ideal.ofBits, Ideal.ieee]

/-- A number whose absolute value is below the greatest is real. -/
theorem isReal_of_abs {x : EReal} (h : max x (-x) < ⊤) : Region.IsReal x := by
  induction x with
  | bot => simp at h
  | top => simp at h
  | coe r => exact ⟨r, rfl⟩

/-- A number passing the first test is real. -/
theorem isReal_of_test {x : EReal} (h : Ideal.cmp .olt (max x (-x)) (Ideal.ofBits .f32 0x7F800000#32) = 1#1) : Region.IsReal x := by
  rw [top_word] at h
  exact isReal_of_abs ((Ideal.cmp_olt_eq_one _ _).mp h)

variable [Facts] (A : FVec Ideal S320x30x26x26 .f32) (B : FVec Ideal S16x20x50 .f32)

/-- The predictions are real. -/
theorem real_fst (h : (fn A B).1 = fun _ => 1#1) (i : S320x30x26x26.Idx) : Region.IsReal (A i) :=
  isReal_of_test (congrFun h i)

/-- The targets are real. -/
theorem real_snd (h : (fn A B).2.1 = fun _ => 1#1) (i : S16x20x50.Idx) : Region.IsReal (B i) :=
  isReal_of_test (congrFun h i)

/-- Width and height are at least zero. -/
theorem side_nonneg (h : (fn A B).2.2 = fun _ => 1#1) (b : Fin 16) (c : Fin 20) (k : Fin 10) (d : Fin 2) :
    (0 : EReal) ≤ B (ix3 b c ⟨k.val * 5 + (3 + d.val), by omega⟩) := by
  have h1 := congrFun h (ix4 b c k d)
  have e : Ideal.cmp .oge (B (ix3 b c ⟨k.val * 5 + (3 + d.val), by omega⟩)) (Ideal.ofBits .f32 0x00000000#32) = (fn A B).2.2 (ix4 b c k d) := by
    unfold fn
    clean_types
    pointwise
  rw [Cert.ReferenceIdeal.Loss.zero_word] at e
  exact (Ideal.cmp_oge_eq_one _ _).mp (e.trans h1)

end Cert.Pre_finite_boxes

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite_boxes
public import proofs.«01_k».proof.Proof.Loss
public import proofs.«01_k».proof.Proof.RefRun
public import proofs.«01_k».proof.Proof.Bounds
public import Idealize.ShloMosaic.Adequacy
public import Idealize.ShloMosaic.Init

@[expose] public section

noncomputable section

namespace Cert.Proof

open Idealize.ShloMosaic Idealize.SL.Sem Cert.Kernel

/-- Each rounded anchor area is the nearest binary32 word of the exact product it is read as. -/
theorem preserves : Cert.preserves_Kernel_KernelIdeal :=
  ⟨IdealRules.named_const.statement Cert.KernelIdeal.κ "area0" .f32 0x4012816F#32 _ rfl,
    IdealRules.named_const.statement Cert.KernelIdeal.κ "area1" .f32 0x414CD177#32 _ rfl,
    IdealRules.named_const.statement Cert.KernelIdeal.κ "area2" .f32 0x4223C9D1#32 _ rfl,
    IdealRules.named_const.statement Cert.KernelIdeal.κ "area3" .f32 0x42376186#32 _ rfl,
    IdealRules.named_const.statement Cert.KernelIdeal.κ "area4" .f32 0x42E0E337#32 _ rfl⟩

/-- The idealized reference runs, leaves its arguments as they were and every counter at zero. -/
theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) :=
  (θ_run Cert.ReferenceIdeal.defs _ _).mono (fun r h => ⟨fun c => (h c).2,
      Idealize.ShloMosaic.sem_eq_zero_of_no_sems (by decide) r.2⟩)
    (Cert.ReferenceIdeal.Value.run (F := Ideal) m g)

/-- Where every number is real and no box has a negative side, the idealized kernel and the reference end with the same
    number: the loss of the two inputs. -/
theorem equal [hPre_finite_boxes : Cert.Pre_finite_boxes.Facts] : Cert.algebraic_KernelIdeal_ReferenceIdeal_pre_finite_boxes := by
  have inputs {A : FVec Ideal Cert.Pre_finite_boxes.S320x30x26x26 .f32} {B : FVec Ideal Cert.Pre_finite_boxes.S16x20x50 .f32}
      (h : (Cert.Pre_finite_boxes.fn A B).1 = (fun _ => 1#1) ∧ (Cert.Pre_finite_boxes.fn A B).2.1 = (fun _ => 1#1)
        ∧ (Cert.Pre_finite_boxes.fn A B).2.2 = (fun _ => 1#1)) :
      (∀ n a s, Region.RealCell (Region.cellA A n a s)) ∧ ∀ n k, Region.RealBox (Region.rowA B n k) ∧ Region.Sized (Region.rowA B n k) :=
    ⟨fun n a s f => Cert.Pre_finite_boxes.real_fst A B h.1 _,
      fun n k => ⟨fun f => Cert.Pre_finite_boxes.real_snd A B h.2.1 _,
        Cert.Pre_finite_boxes.side_nonneg A B h.2.2 _ _ k 0, Cert.Pre_finite_boxes.side_nonneg A B h.2.2 _ _ k 1⟩⟩
  intro m g m' g' hpre hagree
  have hin (c : Dev Cert.KernelIdeal.nD) := inputs (hpre c)
  refine ⟨fun c _ => Region.loss (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · refine (θ_run Cert.KernelIdeal.defs _ _).mono (fun r h c => ⟨(h c).1.trans ?_, (h c).2⟩) (Cert.KernelIdeal.Block.run m g)
    exact funext fun _ => Cert.KernelIdeal.Block.sum_total m c fun n k => ((hin c).2 n k).2
  · have hv (c : Dev Cert.ReferenceIdeal.nD) := inputs (A := m' ((c.tc : Thread Cert.ReferenceIdeal.nD Cert.ReferenceIdeal.τ).loc Cert.ReferenceIdeal.main_arg0))
      (B := m' ((c.tc : Thread Cert.ReferenceIdeal.nD Cert.ReferenceIdeal.τ).loc Cert.ReferenceIdeal.main_arg1))
      (by rw [(hagree c).1, (hagree c).2]; exact hpre c)
    refine (θ_run Cert.ReferenceIdeal.defs _ _).mono (fun r h c => ⟨(h c).1.trans ?_, (h c).2⟩)
      (Cert.ReferenceIdeal.Loss.run m' g' (fun c => (hv c).2) (fun c => (hv c).1))
    exact funext fun _ => congrArg₂ Region.loss (hagree c).1 (hagree c).2

/-- Everything the certificate states. -/
theorem claim : Cert.Claim :=
  ⟨Cert.Kernel.Gen.facts, Cert.KernelIdeal.Gen.facts, Cert.ReferenceIdeal.Gen.facts, Cert.Pre_finite_boxes.Gen.facts,
    fun m g _ => Cert.Kernel.Gen.frame m g, fun m g _ => Cert.KernelIdeal.Gen.frame m g, fun m g _ => Cert.KernelIdeal.Gen.frame m g,
    fun m g _ => frame_reference m g, fun m g _ => frame_reference m g, preserves,
    equal (hPre_finite_boxes := Cert.Pre_finite_boxes.Gen.facts)⟩

end Cert.Proof

end
